-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_below_infinity [hPre_scores_below_infinity : Cert.Pre_scores_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_scores_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_below_infinity [hPre_scores_below_infinity : Cert.Pre_scores_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_below_infinity [hKernelIdeal : Cert.KernelIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_below_infinity [hReferenceIdeal : Cert.ReferenceIdeal.Facts] [hPre_scores_below_infinity : Cert.Pre_scores_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_below_infinity [hKernelIdeal : Cert.KernelIdeal.Facts] [hReferenceIdeal : Cert.ReferenceIdeal.Facts] [hPre_scores_below_infinity : Cert.Pre_scores_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_below_infinity : Cert.Pre_scores_below_infinity.Facts),
    quiescent_Kernel (hKernel := hKernel)
    ∧ quiescent_KernelIdeal (hKernelIdeal := hKernelIdeal)
    ∧ quiescent_KernelIdeal_pre_scores_below_infinity (hKernelIdeal := hKernelIdeal) (hPre_scores_below_infinity := hPre_scores_below_infinity)
    ∧ quiescent_ReferenceIdeal (hReferenceIdeal := hReferenceIdeal)
    ∧ quiescent_ReferenceIdeal_pre_scores_below_infinity (hReferenceIdeal := hReferenceIdeal) (hPre_scores_below_infinity := hPre_scores_below_infinity)
    ∧ preserves_Kernel_KernelIdeal
    ∧ algebraic_KernelIdeal_ReferenceIdeal_pre_scores_below_infinity (hKernelIdeal := hKernelIdeal) (hReferenceIdeal := hReferenceIdeal) (hPre_scores_below_infinity := hPre_scores_below_infinity)
-- ==== Pre_scores_below_infinity.lean ====
abbrev S2x2000x2x4 : Shape := ⟨4, ![2, 2000, 2, 4]⟩
abbrev S2x2000x3 : Shape := ⟨3, ![2, 2000, 3]⟩
abbrev S2x2000x2 : Shape := ⟨3, ![2, 2000, 2]⟩
abbrev S_ : Shape := ⟨0, ![]⟩

class Facts : Prop where
  slices_S2x2000x3_S2x2000x2_0_0_1 : S2x2000x3.Slices ![0, 0, 1] S2x2000x2
  bcast_S_S2x2000x2 : S_.BroadcastsInDim S2x2000x2 (![] : Fin 0 → Fin S2x2000x2.rank)

variable [Facts]

def fn {F : FTy → Type} [FloatOps F] (main_arg0 : FVec F S2x2000x2x4 .f32) (main_arg1 : FVec F S2x2000x3 .f32) : IVec S2x2000x2 1 :=
  let main_v0 : FVec F S2x2000x2 .f32 := (extractStridedSlice S2x2000x2 ![0, 0, 1] · slices_S2x2000x3_S2x2000x2_0_0_1) main_arg1
  let main_cst : FVec F S_ .f32 := constant S_ .f32 0x7F800000#32
  let main_v1 : FVec F S2x2000x2 .f32 := broadcastInDim S2x2000x2 ![] bcast_S_S2x2000x2 main_cst
  let main_v2 : IVec S2x2000x2 1 := cmpf .olt main_v0 main_v1
  main_v2
-- ==== Kernel.lean ====
abbrev S2x2000x2x4 : Shape := ⟨4, ![2, 2000, 2, 4]⟩
abbrev S2x2000x3 : Shape := ⟨3, ![2, 2000, 3]⟩
abbrev S2x4000x4 : Shape := ⟨3, ![2, 4000, 4]⟩
abbrev S2x4000x1 : Shape := ⟨3, ![2, 4000, 1]⟩
abbrev S2x4000 : Shape := ⟨2, ![2, 4000]⟩
abbrev S_ : Shape := ⟨0, ![]⟩
abbrev S2x4096 : Shape := ⟨2, ![2, 4096]⟩
abbrev S2x32x128 : Shape := ⟨3, ![2, 32, 128]⟩
abbrev S2x2000x2 : Shape := ⟨3, ![2, 2000, 2]⟩
abbrev S2x101x4 : Shape := ⟨3, ![2, 101, 4]⟩
abbrev S2x101x1 : Shape := ⟨3, ![2, 101, 1]⟩
abbrev S32x128 : Shape := ⟨2, ![32, 128]⟩
abbrev S5x128 : Shape := ⟨2, ![5, 128]⟩
abbrev S1x32x128 : Shape := ⟨3, ![1, 32, 128]⟩
abbrev S1 : Shape := ⟨1, ![1]⟩
abbrev S1x1x1 : Shape := ⟨3, ![1, 1, 1]⟩
abbrev S1x1x128 : Shape := ⟨3, ![1, 1, 128]⟩
abbrev S1x128 : Shape := ⟨2, ![1, 128]⟩
abbrev S5 : Shape := ⟨1, ![5]⟩
abbrev S5x1 : Shape := ⟨2, ![5, 1]⟩
abbrev S1x1 : Shape := ⟨2, ![1, 1]⟩
abbrev S2x100x4 : Shape := ⟨3, ![2, 100, 4]⟩
abbrev S2x100x1 : Shape := ⟨3, ![2, 100, 1]⟩
abbrev S2x100 : Shape := ⟨2, ![2, 100]⟩

abbrev nBuf : Space → Nat
  | .hbm => 41
  | .vmem => 9
  | .smem => 0
  | _ => 0

abbrev bufTy : (tb : Table) → Fin (tcTables nBuf tb) → BufTy
  | .hbm, ⟨0, _⟩ => ⟨S2x2000x2x4, .f32⟩
  | .hbm, ⟨1, _⟩ => ⟨S2x2000x3, .f32⟩
  | .hbm, ⟨2, _⟩ => ⟨S2x4000x4, .f32⟩
  | .hbm, ⟨3, _⟩ => ⟨S2x4000x1, .f32⟩
  | .hbm, ⟨4, _⟩ => ⟨S2x4000, .f32⟩
  | .hbm, ⟨5, _⟩ => ⟨S_, .i32⟩
  | .hbm, ⟨6, _⟩ => ⟨S_, .f32⟩
  | .hbm, ⟨7, _⟩ => ⟨S2x4096, .f32⟩
  | .hbm, ⟨8, _⟩ => ⟨S2x32x128, .f32⟩
  | .hbm, ⟨9, _⟩ => ⟨S2x4000x1, .f32⟩
  | .hbm, ⟨10, _⟩ => ⟨S2x4000, .f32⟩
  | .hbm, ⟨11, _⟩ => ⟨S_, .i32⟩
  | .hbm, ⟨12, _⟩ => ⟨S_, .f32⟩
  | .hbm, ⟨13, _⟩ => ⟨S2x4096, .f32⟩
  | .hbm, ⟨14, _⟩ => ⟨S2x32x128, .f32⟩
  | .hbm, ⟨15, _⟩ => ⟨S2x4000x1, .f32⟩
  | .hbm, ⟨16, _⟩ => ⟨S2x4000, .f32⟩
  | .hbm, ⟨17, _⟩ => ⟨S_, .i32⟩
  | .hbm, ⟨18, _⟩ => ⟨S_, .f32⟩
  | .hbm, ⟨19, _⟩ => ⟨S2x4096, .f32⟩
  | .hbm, ⟨20, _⟩ => ⟨S2x32x128, .f32⟩
  | .hbm, ⟨21, _⟩ => ⟨S2x4000x1, .f32⟩
  | .hbm, ⟨22, _⟩ => ⟨S2x4000, .f32⟩
  | .hbm, ⟨23, _⟩ => ⟨S_, .i32⟩
  | .hbm, ⟨24, _⟩ => ⟨S_, .f32⟩
  | .hbm, ⟨25, _⟩ => ⟨S2x4096, .f32⟩
  | .hbm, ⟨26, _⟩ => ⟨S2x32x128, .f32⟩
  | .hbm, ⟨27, _⟩ => ⟨S2x2000x2, .f32⟩
  | .hbm, ⟨28, _⟩ => ⟨S2x4000, .f32⟩
  | .hbm, ⟨29, _⟩ => ⟨S_, .f32⟩
  | .hbm, ⟨30, _⟩ => ⟨S_, .f32⟩
  | .hbm, ⟨31, _⟩ => ⟨S2x4096, .f32⟩
  | .hbm, ⟨32, _⟩ => ⟨S2x32x128, .f32⟩
  | .hbm, ⟨33, _⟩ => ⟨S2x101x4, .f32⟩
  | .hbm, ⟨34, _⟩ => ⟨S2x101x1, .f32⟩
  | .hbm, ⟨35, _⟩ => ⟨S2x101x1, .i32⟩
  | .hbm, ⟨36, _⟩ => ⟨S2x100x4, .f32⟩
  | .hbm, ⟨37, _⟩ => ⟨S2x100x1, .f32⟩
  | .hbm, ⟨38, _⟩ => ⟨S2x100, .f32⟩
  | .hbm, ⟨39, _⟩ => ⟨S2x100x1, .i32⟩
  | .hbm, ⟨40, _⟩ => ⟨S2x100, .i32⟩
  | .local _ .vmem, ⟨0, _⟩ => ⟨S2x32x128, .f32⟩
  | .local _ .vmem, ⟨1, _⟩ => ⟨S2x32x128, .f32⟩
  | .local _ .vmem, ⟨2, _⟩ => ⟨S2x32x128, .f32⟩
  | .local _ .vmem, ⟨3, _⟩ => ⟨S2x32x128, .f32⟩
  | .local _ .vmem, ⟨4, _⟩ => ⟨S2x32x128, .f32⟩
  | .local _ .vmem, ⟨5, _⟩ => ⟨S2x101x4, .f32⟩
  | .local _ .vmem, ⟨6, _⟩ => ⟨S2x101x1, .f32⟩
  | .local _ .vmem, ⟨7, _⟩ => ⟨S2x101x1, .i32⟩
  | .local _ .vmem, ⟨8, _⟩ => ⟨S2x32x128, .f32⟩
  | _, _ => ⟨S2x2000x2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call3_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_call4_v0 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v68 : BitVec 32 := Scalar.addi c0_i32 c100_i32
  let c1_i32 : BitVec 32 := 1#32
  ⟨c0_i32, v68, c1_i32⟩
def k0_off1 (v82 : BitVec 32) : Fin 3 → Nat :=
  let c0_56 : Index := 0#32
  let c7_i32 : BitVec 32 := 7#32
  let v83 : BitVec 32 := Scalar.shrsi v82 c7_i32
  let c31_i32 : BitVec 32 := 31#32
  let v84 : BitVec 32 := Scalar.minsi v83 c31_i32
  let v86 : Index := Scalar.indexCast v84
  let c0_57 : Index := 0#32
  ![0, v86.toNat, 0]

def k0_chk1 (v82 : BitVec 32) : Prop :=
  (∀ a, (k0_off1 v82) a + S1x1x128.size a ≤ S2x32x128.size a)
theorem k0_off1_inb : ∀ (v82 : BitVec 32) (k0_hw1 : k0_chk1 v82), ∀ a, (k0_off1 v82) a + S1x1x128.size a ≤ S2x32x128.size a := fun v82 k0_hw1 => k0_hw1

def k0_off2 (k0_t1 : Fin k0_t1_loop.trips) (v74 : BitVec 1) : Fin 3 → Nat :=
  let c0_88 : Index := 0#32
  let c0_i32 : BitVec 32 := 0#32
  let c1_i32 : BitVec 32 := 1#32
  let arg9 : BitVec 32 := Scf.iv c0_i32 c1_i32 k0_t1
  let c100_i32_87 : BitVec 32 := 100#32
  let v149 : BitVec 32 := Scalar.select v74 arg9 c100_i32_87
  let v150 : Index := Scalar.indexCast v149
  let c0_89 : Index := 0#32
  ![0, v150.toNat, 0]

def k0_off3 (k0_t1 : Fin k0_t1_loop.trips) (v74 : BitVec 1) : Fin 3 → Nat :=
  let c0_90 : Index := 0#32
  let c0_i32 : BitVec 32 := 0#32
  let c1_i32 : BitVec 32 := 1#32
  let arg9 : BitVec 32 := Scf.iv c0_i32 c1_i32 k0_t1
  let c100_i32_87 : BitVec 32 := 100#32
  let v149 : BitVec 32 := Scalar.select v74 arg9 c100_i32_87
  let v154 : Index := Scalar.indexCast v149
  let c1_91 : Index := 1#32
  ![0, v154.toNat, 1]
def k0_off4 (k0_t1 : Fin k0_t1_loop.trips) (v74 : BitVec 1) : Fin 3 → Nat :=
  let c0_92 : Index := 0#32
  let c0_i32 : BitVec 32 := 0#32
  let c1_i32 : BitVec 32 := 1#32
  let arg9 : BitVec 32 := Scf.iv c0_i32 c1_i32 k0_t1
  let c100_i32_87 : BitVec 32 := 100#32
  let v149 : BitVec 32 := Scalar.select v74 arg9 c100_i32_87
  let v158 : Index := Scalar.indexCast v149
  let c2 : Index := 2#32
  ![0, v158.toNat, 2]
def k0_off5 (k0_t1 : Fin k0_t1_loop.trips) (v74 : BitVec 1) : Fin 3 → Nat :=
  let c0_93 : Index := 0#32
  let c0_i32 : BitVec 32 := 0#32
  let c1_i32 : BitVec 32 := 1#32
  let arg9 : BitVec 32 := Scf.iv c0_i32 c1_i32 k0_t1
  let c100_i32_87 : BitVec 32 := 100#32
  let v149 : BitVec 32 := Scalar.select v74 arg9 c100_i32_87
  let v162 : Index := Scalar.indexCast v149
  let c3 : Index := 3#32
  ![0, v162.toNat, 3]
def k0_off6 (k0_t1 : Fin k0_t1_loop.trips) (v74 : BitVec 1) : Fin 3 → Nat :=
  let c0_94 : Index := 0#32
  let c0_i32 : BitVec 32 := 0#32
  let c1_i32 : BitVec 32 := 1#32
  let arg9 : BitVec 32 := Scf.iv c0_i32 c1_i32 k0_t1
  let c100_i32_87 : BitVec 32 := 100#32
  let v149 : BitVec 32 := Scalar.select v74 arg9 c100_i32_87
  let v167 : Index := Scalar.indexCast v149
  let c0_95 : Index := 0#32
  ![0, v167.toNat, 0]

def k0_chk2 (k0_t1 : Fin k0_t1_loop.trips) (v74 : BitVec 1) : Prop :=
  (∀ a, (k0_off2 k0_t1 v74) a + S1x1x1.size a ≤ S2x101x4.size a) ∧
  (∀ a, (k0_off3 k0_t1 v74) a + S1x1x1.size a ≤ S2x101x4.size a) ∧
  (∀ a, (k0_off4 k0_t1 v74) a + S1x1x1.size a ≤ S2x101x4.size a) ∧
  (∀ a, (k0_off5 k0_t1 v74) a + S1x1x1.size a ≤ S2x101x4.size a) ∧
  (∀ a, (k0_off6 k0_t1 v74) a + S1x1x1.size a ≤ S2x101x1.size a)
theorem k0_off2_inb : ∀ (k0_t1 : Fin k0_t1_loop.trips) (v74 : BitVec 1) (k0_hw2 : k0_chk2 k0_t1 v74), ∀ a, (k0_off2 k0_t1 v74) a + S1x1x1.size a ≤ S2x101x4.size a := fun k0_t1 v74 k0_hw2 => k0_hw2.1
theorem k0_off3_inb : ∀ (k0_t1 : Fin k0_t1_loop.trips) (v74 : BitVec 1) (k0_hw2 : k0_chk2 k0_t1 v74), ∀ a, (k0_off3 k0_t1 v74) a + S1x1x1.size a ≤ S2x101x4.size a := fun k0_t1 v74 k0_hw2 => k0_hw2.2.1
theorem k0_off4_inb : ∀ (k0_t1 : Fin k0_t1_loop.trips) (v74 : BitVec 1) (k0_hw2 : k0_chk2 k0_t1 v74), ∀ a, (k0_off4 k0_t1 v74) a + S1x1x1.size a ≤ S2x101x4.size a := fun k0_t1 v74 k0_hw2 => k0_hw2.2.2.1
theorem k0_off5_inb : ∀ (k0_t1 : Fin k0_t1_loop.trips) (v74 : BitVec 1) (k0_hw2 : k0_chk2 k0_t1 v74), ∀ a, (k0_off5 k0_t1 v74) a + S1x1x1.size a ≤ S2x101x4.size a := fun k0_t1 v74 k0_hw2 => k0_hw2.2.2.2.1
theorem k0_off6_inb : ∀ (k0_t1 : Fin k0_t1_loop.trips) (v74 : BitVec 1) (k0_hw2 : k0_chk2 k0_t1 v74), ∀ a, (k0_off6 k0_t1 v74) a + S1x1x1.size a ≤ S2x101x1.size a := fun k0_t1 v74 k0_hw2 => k0_hw2.2.2.2.2

def k0_off7 (v191 : BitVec 32) : Fin 3 → Nat :=
  let c1_105 : Index := 1#32
  let c7_i32_102 : BitVec 32 := 7#32
  let v192 : BitVec 32 := Scalar.shrsi v191 c7_i32_102
  let c31_i32_103 : BitVec 32 := 31#32
  let v193 : BitVec 32 := Scalar.minsi v192 c31_i32_103
  let v195 : Index := Scalar.indexCast v193
  let c0_106 : Index := 0#32
  ![1, v195.toNat, 0]

def k0_chk3 (v191 : BitVec 32) : Prop :=
  (∀ a, (k0_off7 v191) a + S1x1x128.size a ≤ S2x32x128.size a)
theorem k0_off7_inb : ∀ (v191 : BitVec 32) (k0_hw3 : k0_chk3 v191), ∀ a, (k0_off7 v191) a + S1x1x128.size a ≤ S2x32x128.size a := fun v191 k0_hw3 => k0_hw3

def k0_off8 (k0_t1 : Fin k0_t1_loop.trips) (v183 : BitVec 1) : Fin 3 → Nat :=
  let c1_137 : Index := 1#32
  let c0_i32 : BitVec 32 := 0#32
  let c1_i32 : BitVec 32 := 1#32
  let arg9 : BitVec 32 := Scf.iv c0_i32 c1_i32 k0_t1
  let c100_i32_136 : BitVec 32 := 100#32
  let v258 : BitVec 32 := Scalar.select v183 arg9 c100_i32_136
  let v259 : Index := Scalar.indexCast v258
  let c0_138 : Index := 0#32
  ![1, v259.toNat, 0]

def k0_off9 (k0_t1 : Fin k0_t1_loop.trips) (v183 : BitVec 1) : Fin 3 → Nat :=
  let c1_139 : Index := 1#32
  let c0_i32 : BitVec 32 := 0#32
  let c1_i32 : BitVec 32 := 1#32
  let arg9 : BitVec 32 := Scf.iv c0_i32 c1_i32 k0_t1
  let c100_i32_136 : BitVec 32 := 100#32
  let v258 : BitVec 32 := Scalar.select v183 arg9 c100_i32_136
  let v263 : Index := Scalar.indexCast v258
  let c1_140 : Index := 1#32
  ![1, v263.toNat, 1]
def k0_off10 (k0_t1 : Fin k0_t1_loop.trips) (v183 : BitVec 1) : Fin 3 → Nat :=
  let c1_141 : Index := 1#32
  let c0_i32 : BitVec 32 := 0#32
  let c1_i32 : BitVec 32 := 1#32
  let arg9 : BitVec 32 := Scf.iv c0_i32 c1_i32 k0_t1
  let c100_i32_136 : BitVec 32 := 100#32
  let v258 : BitVec 32 := Scalar.select v183 arg9 c100_i32_136
  let v267 : Index := Scalar.indexCast v258
  let c2_142 : Index := 2#32
  ![1, v267.toNat, 2]
def k0_off11 (k0_t1 : Fin k0_t1_loop.trips) (v183 : BitVec 1) : Fin 3 → Nat :=
  let c1_143 : Index := 1#32
  let c0_i32 : BitVec 32 := 0#32
  let c1_i32 : BitVec 32 := 1#32
  let arg9 : BitVec 32 := Scf.iv c0_i32 c1_i32 k0_t1
  let c100_i32_136 : BitVec 32 := 100#32
  let v258 : BitVec 32 := Scalar.select v183 arg9 c100_i32_136
  let v271 : Index := Scalar.indexCast v258
  let c3_144 : Index := 3#32
  ![1, v271.toNat, 3]
def k0_off12 (k0_t1 : Fin k0_t1_loop.trips) (v183 : BitVec 1) : Fin 3 → Nat :=
  let c1_145 : Index := 1#32
  let c0_i32 : BitVec 32 := 0#32
  let c1_i32 : BitVec 32 := 1#32
  let arg9 : BitVec 32 := Scf.iv c0_i32 c1_i32 k0_t1
  let c100_i32_136 : BitVec 32 := 100#32
  let v258 : BitVec 32 := Scalar.select v183 arg9 c100_i32_136
  let v276 : Index := Scalar.indexCast v258
  let c0_146 : Index := 0#32
  ![1, v276.toNat, 0]

def k0_chk4 (k0_t1 : Fin k0_t1_loop.trips) (v183 : BitVec 1) : Prop :=
  (∀ a, (k0_off8 k0_t1 v183) a + S1x1x1.size a ≤ S2x101x4.size a) ∧
  (∀ a, (k0_off9 k0_t1 v183) a + S1x1x1.size a ≤ S2x101x4.size a) ∧
  (∀ a, (k0_off10 k0_t1 v183) a + S1x1x1.size a ≤ S2x101x4.size a) ∧
  (∀ a, (k0_off11 k0_t1 v183) a + S1x1x1.size a ≤ S2x101x4.size a) ∧
  (∀ a, (k0_off12 k0_t1 v183) a + S1x1x1.size a ≤ S2x101x1.size a)
theorem k0_off8_inb : ∀ (k0_t1 : Fin k0_t1_loop.trips) (v183 : BitVec 1) (k0_hw4 : k0_chk4 k0_t1 v183), ∀ a, (k0_off8 k0_t1 v183) a + S1x1x1.size a ≤ S2x101x4.size a := fun k0_t1 v183 k0_hw4 => k0_hw4.1
theorem k0_off9_inb : ∀ (k0_t1 : Fin k0_t1_loop.trips) (v183 : BitVec 1) (k0_hw4 : k0_chk4 k0_t1 v183), ∀ a, (k0_off9 k0_t1 v183) a + S1x1x1.size a ≤ S2x101x4.size a := fun k0_t1 v183 k0_hw4 => k0_hw4.2.1
theorem k0_off10_inb : ∀ (k0_t1 : Fin k0_t1_loop.trips) (v183 : BitVec 1) (k0_hw4 : k0_chk4 k0_t1 v183), ∀ a, (k0_off10 k0_t1 v183) a + S1x1x1.size a ≤ S2x101x4.size a := fun k0_t1 v183 k0_hw4 => k0_hw4.2.2.1
theorem k0_off11_inb : ∀ (k0_t1 : Fin k0_t1_loop.trips) (v183 : BitVec 1) (k0_hw4 : k0_chk4 k0_t1 v183), ∀ a, (k0_off11 k0_t1 v183) a + S1x1x1.size a ≤ S2x101x4.size a := fun k0_t1 v183 k0_hw4 => k0_hw4.2.2.2.1
theorem k0_off12_inb : ∀ (k0_t1 : Fin k0_t1_loop.trips) (v183 : BitVec 1) (k0_hw4 : k0_chk4 k0_t1 v183), ∀ a, (k0_off12 k0_t1 v183) a + S1x1x1.size a ≤ S2x101x1.size a := fun k0_t1 v183 k0_hw4 => k0_hw4.2.2.2.2

abbrev stage0_0 : Fin 1 → Memref sig .tc .vmem S2x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x101x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x101x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x101x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x2000x2x4 : Shape := ⟨4, ![2, 2000, 2, 4]⟩
abbrev S2x2000x3 : Shape := ⟨3, ![2, 2000, 3]⟩
abbrev S2x4000x4 : Shape := ⟨3, ![2, 4000, 4]⟩
abbrev S2x2000x2 : Shape := ⟨3, ![2, 2000, 2]⟩
abbrev S2x4000 : Shape := ⟨2, ![2, 4000]⟩
abbrev S2 : Shape := ⟨1, ![2]⟩
abbrev S1x2 : Shape := ⟨2, ![1, 2]⟩
abbrev S2000x2 : Shape := ⟨2, ![2000, 2]⟩
abbrev S4000 : Shape := ⟨1, ![4000]⟩
abbrev S_ : Shape := ⟨0, ![]⟩
abbrev S2x4000x1 : Shape := ⟨3, ![2, 4000, 1]⟩
abbrev S2x1x4000 : Shape := ⟨3, ![2, 1, 4000]⟩
abbrev S2x4000x4000 : Shape := ⟨3, ![2, 4000, 4000]⟩
abbrev S4000x2x4000 : Shape := ⟨3, ![4000, 2, 4000]⟩
abbrev S1x2x4000 : Shape := ⟨3, ![1, 2, 4000]⟩
abbrev S1 : Shape := ⟨1, ![1]⟩
abbrev S2x1 : Shape := ⟨2, ![2, 1]⟩
abbrev S1x4000 : Shape := ⟨2, ![1, 4000]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 217
  | .vmem => 0
  | .smem => 0
  | _ => 0

abbrev hbmTy0_0 (i : Nat) : BufTy := match i % 128 with
  | 0 => ⟨S2x2000x2x4, .f32⟩
  | 1 => ⟨S2x2000x3, .f32⟩
  | 2 => ⟨S2x4000x4, .f32⟩
  | 3 => ⟨S2x2000x2, .f32⟩
  | 4 => ⟨S2x4000, .f32⟩
  | 5 => ⟨S2, .i32⟩
  | 6 => ⟨S1x2, .i32⟩
  | 7 => ⟨S2000x2, .i32⟩
  | 8 => ⟨S4000, .i32⟩
  | 9 => ⟨S2x4000, .i32⟩
  | 10 => ⟨S_, .f32⟩
  | 11 => ⟨S2x4000, .f32⟩
  | 12 => ⟨S2x4000, .i1⟩
  | 13 => ⟨S2x4000x1, .f32⟩
  | 14 => ⟨S2x4000, .f32⟩
  | 15 => ⟨S2x4000x1, .f32⟩
  | 16 => ⟨S2x4000, .f32⟩
  | 17 => ⟨S2x4000, .i1⟩
  | 18 => ⟨S2x4000, .i1⟩
  | 19 => ⟨S2x4000x1, .f32⟩
  | 20 => ⟨S2x4000, .f32⟩
  | 21 => ⟨S2x4000x1, .f32⟩
  | 22 => ⟨S2x4000, .f32⟩
  | 23 => ⟨S2x4000, .i1⟩
  | 24 => ⟨S2x4000, .i1⟩
  | 25 => ⟨S_, .f32⟩
  | 26 => ⟨S_, .f32⟩
  | 27 => ⟨S2x4000, .f32⟩
  | 28 => ⟨S2x4000, .f32⟩
  | 29 => ⟨S2x4000, .f32⟩
  | 30 => ⟨S2x4000, .i32⟩
  | 31 => ⟨S2x4000, .f32⟩
  | 32 => ⟨S2x4000, .i32⟩
  | 33 => ⟨S2x4000x1, .i32⟩
  | 34 => ⟨S2x4000x4, .f32⟩
  | 35 => ⟨S2x4000x1, .i32⟩
  | 36 => ⟨S2x4000, .f32⟩
  | 37 => ⟨S2x4000x1, .i32⟩
  | 38 => ⟨S2x4000, .i32⟩
  | 39 => ⟨S2x4000x1, .f32⟩
  | 40 => ⟨S2x4000, .f32⟩
  | 41 => ⟨S2x4000x1, .f32⟩
  | 42 => ⟨S2x4000, .f32⟩
  | 43 => ⟨S2x4000, .f32⟩
  | 44 => ⟨S_, .f32⟩
  | 45 => ⟨S_, .f32⟩
  | 46 => ⟨S2x4000, .f32⟩
  | 47 => ⟨S2x4000, .f32⟩
  | 48 => ⟨S2x4000x1, .f32⟩
  | 49 => ⟨S2x4000, .f32⟩
  | 50 => ⟨S2x4000x1, .f32⟩
  | 51 => ⟨S2x4000, .f32⟩
  | 52 => ⟨S2x4000, .f32⟩
  | 53 => ⟨S_, .f32⟩
  | 54 => ⟨S_, .f32⟩
  | 55 => ⟨S2x4000, .f32⟩
  | 56 => ⟨S2x4000, .f32⟩
  | 57 => ⟨S2x4000, .f32⟩
  | 58 => ⟨S2x4000x1, .f32⟩
  | 59 => ⟨S2x4000, .f32⟩
  | 60 => ⟨S2x4000x1, .f32⟩
  | 61 => ⟨S2x4000x1, .f32⟩
  | 62 => ⟨S2x4000, .f32⟩
  | 63 => ⟨S2x1x4000, .f32⟩
  | 64 => ⟨S2x4000x4000, .f32⟩
  | 65 => ⟨S2x4000x4000, .f32⟩
  | 66 => ⟨S2x4000x4000, .f32⟩
  | 67 => ⟨S2x4000x1, .f32⟩
  | 68 => ⟨S2x4000, .f32⟩
  | 69 => ⟨S2x4000x1, .f32⟩
  | 70 => ⟨S2x4000x1, .f32⟩
  | 71 => ⟨S2x4000, .f32⟩
  | 72 => ⟨S2x1x4000, .f32⟩
  | 73 => ⟨S2x4000x4000, .f32⟩
  | 74 => ⟨S2x4000x4000, .f32⟩
  | 75 => ⟨S2x4000x4000, .f32⟩
  | 76 => ⟨S2x4000x4000, .f32⟩
  | 77 => ⟨S_, .f32⟩
  | 78 => ⟨S_, .f32⟩
  | 79 => ⟨S2x4000x4000, .f32⟩
  | 80 => ⟨S2x4000x4000, .f32⟩
  | 81 => ⟨S2x4000x1, .f32⟩
  | 82 => ⟨S2x4000, .f32⟩
  | 83 => ⟨S2x4000x1, .f32⟩
  | 84 => ⟨S2x4000x1, .f32⟩
  | 85 => ⟨S2x4000, .f32⟩
  | 86 => ⟨S2x1x4000, .f32⟩
  | 87 => ⟨S2x4000x4000, .f32⟩
  | 88 => ⟨S2x4000x4000, .f32⟩
  | 89 => ⟨S2x4000x4000, .f32⟩
  | 90 => ⟨S2x4000x1, .f32⟩
  | 91 => ⟨S2x4000, .f32⟩
  | 92 => ⟨S2x4000x1, .f32⟩
  | 93 => ⟨S2x4000x1, .f32⟩
  | 94 => ⟨S2x4000, .f32⟩
  | 95 => ⟨S2x1x4000, .f32⟩
  | 96 => ⟨S2x4000x4000, .f32⟩
  | 97 => ⟨S2x4000x4000, .f32⟩
  | 98 => ⟨S2x4000x4000, .f32⟩
  | 99 => ⟨S2x4000x4000, .f32⟩
  | 100 => ⟨S_, .f32⟩
  | 101 => ⟨S_, .f32⟩
  | 102 => ⟨S2x4000x4000, .f32⟩
  | 103 => ⟨S2x4000x4000, .f32⟩
  | 104 => ⟨S2x4000x4000, .f32⟩
  | 105 => ⟨S2x4000x1, .f32⟩
  | 106 => ⟨S2x1x4000, .f32⟩
  | 107 => ⟨S2x4000x4000, .f32⟩
  | 108 => ⟨S2x4000x4000, .f32⟩
  | 109 => ⟨S2x4000x4000, .f32⟩
  | 110 => ⟨S2x4000x4000, .f32⟩
  | 111 => ⟨S_, .f32⟩
  | 112 => ⟨S2x4000x4000, .f32⟩
  | 113 => ⟨S2x4000x4000, .f32⟩
  | 114 => ⟨S2x4000x4000, .f32⟩
  | 115 => ⟨S4000, .i32⟩
  | 116 => ⟨S_, .f32⟩
  | 117 => ⟨S2x4000, .f32⟩
  | 118 => ⟨S2x4000, .i1⟩
  | 119 => ⟨S_, .f32⟩
  | 120 => ⟨S2x4000, .f32⟩
  | 121 => ⟨S2x4000, .i1⟩
  | 122 => ⟨S2x4000, .i1⟩
  | 123 => ⟨S2x4000, .i1⟩
  | 124 => ⟨S2x4000x1, .i1⟩
  | 125 => ⟨S_, .f32⟩
  | 126 => ⟨S_, .f32⟩
  | 127 => ⟨S2x4000x4, .i1⟩
  | _ => ⟨S2x2000x2x4, .f32⟩

abbrev hbmTy0_1 (i : Nat) : BufTy := match i % 128 with
  | 0 => ⟨S2x4000x4, .f32⟩
  | 1 => ⟨S2x4000x4, .f32⟩
  | 2 => ⟨S_, .f32⟩
  | 3 => ⟨S_, .f32⟩
  | 4 => ⟨S2x4000, .f32⟩
  | 5 => ⟨S2x4000, .f32⟩
  | 6 => ⟨S_, .i32⟩
  | 7 => ⟨S_, .i32⟩
  | 8 => ⟨S2x4000, .i32⟩
  | 9 => ⟨S2x4000, .i32⟩
  | 10 => ⟨S4000x2x4000, .f32⟩
  | 11 => ⟨S_, .i32⟩
  | 12 => ⟨S4000x2x4000, .f32⟩
  | 13 => ⟨S4000, .i32⟩
  | 14 => ⟨S4000, .i32⟩
  | 15 => ⟨S_, .i32⟩
  | 16 => ⟨S2x4000x4, .f32⟩
  | 17 => ⟨S2x4000, .f32⟩
  | 18 => ⟨S2x4000, .i32⟩
  | 19 => ⟨S_, .i32⟩
  | 20 => ⟨S_, .i1⟩
  | 21 => ⟨S_, .i32⟩
  | 22 => ⟨S_, .i32⟩
  | 23 => ⟨S1x2x4000, .f32⟩
  | 24 => ⟨S2x4000, .f32⟩
  | 25 => ⟨S1, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S2x1, .f32⟩
  | 41 => ⟨S2, .f32⟩
  | 42 => ⟨S_, .f32⟩
  | 43 => ⟨S2, .f32⟩
  | 44 => ⟨S2, .i1⟩
  | 45 => ⟨S_, .f32⟩
  | 46 => ⟨S2, .f32⟩
  | 47 => ⟨S2, .i1⟩
  | 48 => ⟨S2, .i1⟩
  | 49 => ⟨S2x1, .i1⟩
  | 50 => ⟨S_, .f32⟩
  | 51 => ⟨S2x4000, .f32⟩
  | 52 => ⟨S2x4000, .i1⟩
  | 53 => ⟨S2x4000, .i1⟩
  | 54 => ⟨S2x4000, .i1⟩
  | 55 => ⟨S4000, .i32⟩
  | 56 => ⟨S4000, .i1⟩
  | 57 => ⟨S1x4000, .i1⟩
  | 58 => ⟨S2x4000, .i1⟩
  | 59 => ⟨S2x4000, .i1⟩
  | 60 => ⟨S2x4000x1, .i1⟩
  | 61 => ⟨S_, .f32⟩
  | 62 => ⟨S_, .f32⟩
  | 63 => ⟨S2x4000x4, .i1⟩
  | 64 => ⟨S2x4000x4, .f32⟩
  | 65 => ⟨S2x4000x4, .f32⟩
  | 66 => ⟨S_, .f32⟩
  | 67 => ⟨S_, .f32⟩
  | 68 => ⟨S2x4000, .f32⟩
  | 69 => ⟨S2x4000, .f32⟩
  | 70 => ⟨S_, .i32⟩
  | 71 => ⟨S_, .i32⟩
  | 72 => ⟨S2x4000, .i32⟩
  | 73 => ⟨S2x4000, .i32⟩
  | 74 => ⟨S_, .i32⟩
  | 75 => ⟨S_, .i32⟩
  | 76 => ⟨S2x100, .f32⟩
  | 77 => ⟨S2x100, .i32⟩
  | 78 => ⟨S2x100x1, .i32⟩
  | 79 => ⟨S2x100x4, .f32⟩
  | 80 => ⟨S2x100x1, .i32⟩
  | 81 => ⟨S2x100, .i32⟩
  | 82 => ⟨S_, .f32⟩
  | 83 => ⟨S2x100, .f32⟩
  | 84 => ⟨S2x100, .i1⟩
  | 85 => ⟨S_, .f32⟩
  | 86 => ⟨S_, .f32⟩
  | 87 => ⟨S2x100, .f32⟩
  | 88 => ⟨S2x100, .f32⟩
  | _ => ⟨S2x2000x2x4, .f32⟩

abbrev hbmTy (i : Nat) : BufTy := match i / 128 with
  | 0 => hbmTy0_0 i
  | 1 => hbmTy0_1 i
  | _ => ⟨S2x2000x2x4, .f32⟩

abbrev bufTy : (tb : Table) → Fin (tcTables nBuf tb) → BufTy
  | .hbm, ⟨i, _⟩ => hbmTy i
  | _, _ => ⟨S2x2000x2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v22 : Ref sig .tc := ⟨.hbm, 28, rfl⟩
abbrev main_v23 : Ref sig .tc := ⟨.hbm, 29, rfl⟩
abbrev main_call1_v0 : Ref sig .tc := ⟨.hbm, 30, rfl⟩
abbrev main_call1_v1_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_call2_v0 : Ref sig .tc := ⟨.hbm, 45, rfl⟩
abbrev main_call2_v1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_call3_v0 : Ref sig .tc := ⟨.hbm, 54, rfl⟩
abbrev main_call3_v1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_3 : Ref sig .tc := ⟨.hbm, 77, rfl⟩
abbrev main_call4_v0 : Ref sig .tc := ⟨.hbm, 78, rfl⟩
abbrev main_call4_v1 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_4 : Ref sig .tc := ⟨.hbm, 100, rfl⟩
abbrev main_call5_v0 : Ref sig .tc := ⟨.hbm, 101, rfl⟩
abbrev main_call5_v1 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_5 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_6 : Ref sig .tc := ⟨.hbm, 116, rfl⟩
abbrev main_v95 : Ref sig .tc := ⟨.hbm, 117, rfl⟩
abbrev main_v96 : Ref sig .tc := ⟨.hbm, 118, rfl⟩
abbrev main_cst_7 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_8 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_v102 : Ref sig .tc := ⟨.hbm, 129, rfl⟩
abbrev main_cst_9 : Ref sig .tc := ⟨.hbm, 130, rfl⟩
abbrev main_call7_v0 : Ref sig .tc := ⟨.hbm, 131, rfl⟩
abbrev main_call7_v1 : Ref sig .tc := ⟨.hbm, 132, rfl⟩
abbrev main_v103 : Ref sig .tc := ⟨.hbm, 133, rfl⟩
abbrev main_c : Ref sig .tc := ⟨.hbm, 134, rfl⟩
abbrev main_call8_v0 : Ref sig .tc := ⟨.hbm, 135, rfl⟩
abbrev main_call8_v1 : Ref sig .tc := ⟨.hbm, 136, rfl⟩
abbrev main_v104 : Ref sig .tc := ⟨.hbm, 137, rfl⟩
abbrev main_v105 : Ref sig .tc := ⟨.hbm, 138, rfl⟩
abbrev main_c_10 : Ref sig .tc := ⟨.hbm, 139, rfl⟩
abbrev main_v106_0 : Ref sig .tc := ⟨.hbm, 140, rfl⟩
abbrev main_v106_1 : Ref sig .tc := ⟨.hbm, 141, rfl⟩
abbrev main_v106_2 : Ref sig .tc := ⟨.hbm, 142, rfl⟩
abbrev main_v106_3 : Ref sig .tc := ⟨.hbm, 143, rfl⟩
abbrev main_v106_4 : Ref sig .tc := ⟨.hbm, 144, rfl⟩
abbrev main_v106_5 : Ref sig .tc := ⟨.hbm, 145, rfl⟩
abbrev main_v106_6 : Ref sig .tc := ⟨.hbm, 146, rfl⟩
abbrev main_while0c_c_19 : Ref sig .tc := ⟨.hbm, 147, rfl⟩
abbrev main_while0c_v114 : Ref sig .tc := ⟨.hbm, 148, rfl⟩
abbrev main_while0b_call9_c : Ref sig .tc := ⟨.hbm, 149, rfl⟩
abbrev main_while0b_call9_c_0 : Ref sig .tc := ⟨.hbm, 150, rfl⟩
abbrev main_while0b_call9_v0 : Ref sig .tc := ⟨.hbm, 151, rfl⟩
abbrev main_while0b_v114 : Ref sig .tc := ⟨.hbm, 152, rfl⟩
abbrev main_while0b_call10_v0 : Ref sig .tc := ⟨.hbm, 153, rfl⟩
abbrev main_while0b_v115 : Ref sig .tc := ⟨.hbm, 154, rfl⟩
abbrev main_while0b_c_19 : Ref sig .tc := ⟨.hbm, 155, rfl⟩
abbrev main_while0b_c_20 : Ref sig .tc := ⟨.hbm, 156, rfl⟩
abbrev main_while0b_v116 : Ref sig .tc := ⟨.hbm, 157, rfl⟩
abbrev main_while0b_c_21 : Ref sig .tc := ⟨.hbm, 158, rfl⟩
abbrev main_while0b_c_22 : Ref sig .tc := ⟨.hbm, 159, rfl⟩
abbrev main_while0b_v117 : Ref sig .tc := ⟨.hbm, 160, rfl⟩
abbrev main_while0b_c_23 : Ref sig .tc := ⟨.hbm, 161, rfl⟩
abbrev main_while0b_v118 : Ref sig .tc := ⟨.hbm, 162, rfl⟩
abbrev main_while0b_c_24 : Ref sig .tc := ⟨.hbm, 163, rfl⟩
abbrev main_while0b_v119 : Ref sig .tc := ⟨.hbm, 164, rfl⟩
abbrev main_while0b_c_25 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_cst_26 : Ref sig .tc := ⟨.hbm, 170, rfl⟩
abbrev main_while0b_v124 : Ref sig .tc := ⟨.hbm, 171, rfl⟩
abbrev main_while0b_v125 : Ref sig .tc := ⟨.hbm, 172, rfl⟩
abbrev main_while0b_cst_27 : Ref sig .tc := ⟨.hbm, 173, rfl⟩
abbrev main_while0b_v126 : Ref sig .tc := ⟨.hbm, 174, rfl⟩
abbrev main_while0b_v127 : Ref sig .tc := ⟨.hbm, 175, rfl⟩
abbrev main_while0b_v128 : Ref sig .tc := ⟨.hbm, 176, rfl⟩
abbrev main_while0b_v129 : Ref sig .tc := ⟨.hbm, 177, rfl⟩
abbrev main_while0b_cst_28 : Ref sig .tc := ⟨.hbm, 178, rfl⟩
abbrev main_while0b_v130 : Ref sig .tc := ⟨.hbm, 179, rfl⟩
abbrev main_while0b_v131 : Ref sig .tc := ⟨.hbm, 180, rfl⟩
abbrev main_while0b_v132 : Ref sig .tc := ⟨.hbm, 181, rfl⟩
abbrev main_while0b_v133 : Ref sig .tc := ⟨.hbm, 182, rfl⟩
abbrev main_while0b_v134 : Ref sig .tc := ⟨.hbm, 183, rfl⟩
abbrev main_while0b_v135 : Ref sig .tc := ⟨.hbm, 184, rfl⟩
abbrev main_while0b_v136 : Ref sig .tc := ⟨.hbm, 185, rfl⟩
abbrev main_while0b_v137 : Ref sig .tc := ⟨.hbm, 186, rfl⟩
abbrev main_while0b_v138 : Ref sig .tc := ⟨.hbm, 187, rfl⟩
abbrev main_while0b_v139 : Ref sig .tc := ⟨.hbm, 188, rfl⟩
abbrev main_while0b_cst_29 : Ref sig .tc := ⟨.hbm, 189, rfl⟩
abbrev main_while0b_call11_v0 : Ref sig .tc := ⟨.hbm, 190, rfl⟩
abbrev main_while0b_call11_v1 : Ref sig .tc := ⟨.hbm, 191, rfl⟩
abbrev main_while0b_call11_v2 : Ref sig .tc := ⟨.hbm, 192, rfl⟩
abbrev main_while0b_v140 : Ref sig .tc := ⟨.hbm, 193, rfl⟩
abbrev main_while0b_cst_30 : Ref sig .tc := ⟨.hbm, 194, rfl⟩
abbrev main_while0b_call12_v0 : Ref sig .tc := ⟨.hbm, 195, rfl⟩
abbrev main_while0b_call12_v1 : Ref sig .tc := ⟨.hbm, 196, rfl⟩
abbrev main_while0b_v141 : Ref sig .tc := ⟨.hbm, 197, rfl⟩
abbrev main_while0b_c_31 : Ref sig .tc := ⟨.hbm, 198, rfl⟩
abbrev main_while0b_call13_v0 : Ref sig .tc := ⟨.hbm, 199, rfl⟩
abbrev main_while0b_call13_v1 : Ref sig .tc := ⟨.hbm, 200, rfl⟩
abbrev main_while0b_v142 : Ref sig .tc := ⟨.hbm, 201, rfl⟩
abbrev main_while0b_c_32 : Ref sig .tc := ⟨.hbm, 202, rfl⟩
abbrev main_while0b_v143 : Ref sig .tc := ⟨.hbm, 203, rfl⟩
abbrev main_values : Ref sig .tc := ⟨.hbm, 204, rfl⟩
abbrev main_indices : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_cst_11 : Ref sig .tc := ⟨.hbm, 210, rfl⟩
abbrev main_v111 : Ref sig .tc := ⟨.hbm, 211, rfl⟩
abbrev main_v112 : Ref sig .tc := ⟨.hbm, 212, rfl⟩
abbrev main_cst_12 : Ref sig .tc := ⟨.hbm, 213, rfl⟩
abbrev main_call14_v0 : Ref sig .tc := ⟨.hbm, 214, rfl⟩
abbrev main_call14_v1 : Ref sig .tc := ⟨.hbm, 215, rfl⟩
abbrev main_v113 : Ref sig .tc := ⟨.hbm, 216, rfl⟩

abbrev nD : Nat := 1
abbrev τ : Topo := Topo.v7x

variable {F : FTy → Type} [FloatOps F]

abbrev main_while0_count : Scf.Loop 32 := ⟨0#32, 4000#32, 1#32⟩
-- ==== Proof.Common.lean ====
/- Small general facts both programs' proofs read: what a signed minimum over a set of words is. -/
module

public import Idealize.ShloMosaic.Lib.SortNet.Extract
public import Idealize.ShloMosaic.PureOps.Reduce

@[expose] public section

namespace Cert.Proof

open Idealize.ShloMosaic

/-- A signed minimum over a set of words is at most its start and at most every word, and is one of them. -/
theorem fold_min_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => simp
  | insert a s ha ih =>
    obtain ⟨h1, h2, h3⟩ := ih
    rw [Finset.fold_insert ha]
    have hm := SortNet.toInt_minsi (g a) (s.fold IntOp.minsi init g)
    refine ⟨by rw [hm]; exact le_trans (min_le_right _ _) h1, fun i hi => ?_, ?_⟩
    · rcases Finset.mem_insert.1 hi with rfl | hi
      · rw [hm]; exact min_le_left _ _
      · rw [hm]; exact le_trans (min_le_right _ _) (h2 i hi)
    · rcases min_choice (g a).toInt (s.fold IntOp.minsi init g).toInt with h | h
      · exact Or.inr ⟨a, Finset.mem_insert_self a s, BitVec.eq_of_toInt_eq (hm.trans h)⟩
      · have e := BitVec.eq_of_toInt_eq (hm.trans h)
        rcases h3 with h3 | ⟨i, hi, h3⟩
        · exact Or.inl (e.trans h3)
        · exact Or.inr ⟨i, Finset.mem_insert_of_mem hi, e.trans h3⟩

end Cert.Proof

end
-- ==== Proof.I.Facts.lean ====
/- Facts about the words the kernel computes: where a trip stores, which entry it picks, and that every row it reads and
   every slot it writes lies inside its buffer. -/
module

public import proofs.«01_k».proof.Proof.Common
public import proofs.«01_k».proof.Proof.Gen.KernelIdeal.Skeleton
public import Idealize.ShloMosaic.Lib.ValueIdx
public import Idealize.ShloMosaic.Lib.Decide

@[expose] public section

set_option maxRecDepth 16384

noncomputable section

namespace Cert.Proof.I

open Cert.KernelIdeal Cert.KernelIdeal.Gen
open Idealize.ShloMosaic Idealize.ShloMosaic.ValueIdx

variable {F : FTy → Type} [FloatOps F]

/-- The slot trip `k` writes: its own while an entry is alive, else the spare one past the end. -/
def slot (k : Fin k0_t1_loop.trips) (v : BitVec 1) : ℕ := if v = 1#1 then k.val else 100

theorem off2_eq : ∀ (k : Fin k0_t1_loop.trips) (v : BitVec 1), k0_off2 k v = ![0, slot k v, 0] := by decide +kernel
theorem off3_eq : ∀ (k : Fin k0_t1_loop.trips) (v : BitVec 1), k0_off3 k v = ![0, slot k v, 1] := by decide +kernel
theorem off4_eq : ∀ (k : Fin k0_t1_loop.trips) (v : BitVec 1), k0_off4 k v = ![0, slot k v, 2] := by decide +kernel
theorem off5_eq : ∀ (k : Fin k0_t1_loop.trips) (v : BitVec 1), k0_off5 k v = ![0, slot k v, 3] := by decide +kernel
theorem off6_eq : ∀ (k : Fin k0_t1_loop.trips) (v : BitVec 1), k0_off6 k v = ![0, slot k v, 0] := by decide +kernel
theorem off8_eq : ∀ (k : Fin k0_t1_loop.trips) (v : BitVec 1), k0_off8 k v = ![1, slot k v, 0] := by decide +kernel
theorem off9_eq : ∀ (k : Fin k0_t1_loop.trips) (v : BitVec 1), k0_off9 k v = ![1, slot k v, 1] := by decide +kernel
theorem off10_eq : ∀ (k : Fin k0_t1_loop.trips) (v : BitVec 1), k0_off10 k v = ![1, slot k v, 2] := by decide +kernel
theorem off11_eq : ∀ (k : Fin k0_t1_loop.trips) (v : BitVec 1), k0_off11 k v = ![1, slot k v, 3] := by decide +kernel
theorem off12_eq : ∀ (k : Fin k0_t1_loop.trips) (v : BitVec 1), k0_off12 k v = ![1, slot k v, 0] := by decide +kernel

/-- Every slot a trip writes for the first image is one of the 101. -/
theorem chk2_all : ∀ (k : Fin k0_t1_loop.trips) (v : BitVec 1), k0_chk2 k v := by decide +kernel

/-- The same for the second image. -/
theorem chk4_all : ∀ (k : Fin k0_t1_loop.trips) (v : BitVec 1), k0_chk4 k v := by decide +kernel

/-- The word a trip picks for the first image of scores `s`. -/
def pick (s : FVec F S32x128 .f32) : BitVec 32 := extractAt ![0, 0, 0] (k0_pay9 k0_pay36 s) inpos_S1x1x1_p0_0_0

/-- The word an index holding the greatest score stands for: its flat position; any other index stands for 4096. -/
def cand (s : FVec F S32x128 .f32) (i : S32x128.Idx) : BitVec 32 :=
  select (cmpf .oeq s (broadcast S32x128 (k0_pay8 s))) k0_pay36 (broadcast S32x128 4096#32) i

/-- The picked word is at most every index's word and is one of them. -/
theorem pick_spec (s : FVec F S32x128 .f32) :
    (∀ i, (pick s).toInt ≤ (cand s i).toInt) ∧ (pick s = 2147483647#32 ∨ ∃ i, pick s = cand s i) := by
  obtain ⟨j, hj⟩ : ∃ j : S1.Idx, pick s = reduceFold reduces_S1x32x128_S1 IKind.minsi.op 2147483647#32
      (shapeCast S1x32x128 (cand s) shapeCasts_S32x128_S1x32x128) j := ⟨_, rfl⟩
  have hsub : ∀ a b : S1.Idx, a = b := fun a b => funext fun x => by
    have h1 := (a x).isLt; have h2 := (b x).isLt
    have hx : S1.size x = 1 := (by decide : ∀ x : Fin S1.rank, S1.size x = 1) x
    exact Fin.ext (by omega)
  rw [reduceFold_eq_fold, Finset.filter_true_of_mem (fun i _ => hsub _ _)] at hj
  have sp := fold_min_spec (shapeCast S1x32x128 (cand s) shapeCasts_S32x128_S1x32x128) Finset.univ 2147483647#32
  have hj' : pick s = Finset.univ.fold IntOp.minsi 2147483647#32 (shapeCast S1x32x128 (cand s) shapeCasts_S32x128_S1x32x128) := hj
  rw [← hj'] at sp
  refine ⟨fun i => ?_, ?_⟩
  · have := sp.2.1 ((Shape.reshapeEquiv shapeCasts_S32x128_S1x32x128).symm i) (Finset.mem_univ _)
    simpa [shapeCast] using this
  · rcases sp.2.2 with h | ⟨i, _, h⟩
    · exact Or.inl h
    · exact Or.inr ⟨_, h⟩

/-- The flat position of row `r`, lane `l`. -/
theorem flat_apply (i : S32x128.Idx) : k0_pay36 i = BitVec.ofNat 32 ((i 0).val * 128 + (i 1).val) := by
  show IntOp.addi (IntOp.muli (BitVec.ofNat 32 (0 * 32 + (i 0).val)) 128#32) (BitVec.ofNat 32 (0 * 128 + (i 1).val)) = _
  unfold IntOp.addi IntOp.muli
  rw [zero_mul, zero_mul, zero_add, zero_add, BitVec.ofNat_add, BitVec.ofNat_mul]

theorem flat_lt (i : S32x128.Idx) : (i 0).val * 128 + (i 1).val < 4096 := by
  have h0 : (i 0).val < 32 := (i 0).isLt
  have h1 : (i 1).val < 128 := (i 1).isLt
  omega

/-- A number below 4097 as a word reads back as itself. -/
theorem toInt_small (n : ℕ) (h : n < 4097) : (BitVec.ofNat 32 n).toInt = n := by
  rw [BitVec.toInt_eq_toNat_of_lt (by rw [BitVec.toNat_ofNat]; omega), BitVec.toNat_ofNat]
  exact congrArg Int.ofNat (Nat.mod_eq_of_lt (by omega))

/-- An index's word is its flat position, or 4096. -/
theorem cand_cases (s : FVec F S32x128 .f32) (i : S32x128.Idx) :
    cand s i = BitVec.ofNat 32 ((i 0).val * 128 + (i 1).val) ∨ cand s i = BitVec.ofNat 32 4096 := by
  unfold cand
  show Scalar.select _ _ _ = _ ∨ Scalar.select _ _ _ = _
  rw [flat_apply]
  unfold Scalar.select
  split
  · exact Or.inl rfl
  · exact Or.inr rfl

/-- The picked word is the picked number, from 0 to 4096. -/
theorem pick_nat (s : FVec F S32x128 .f32) : ∃ n, n ≤ 4096 ∧ pick s = BitVec.ofNat 32 n := by
  obtain ⟨h1, h2⟩ := pick_spec s
  rcases h2 with h | ⟨i, h⟩
  · have := h1 (ix2 0 0)
    have hb : (2147483647#32).toInt = 2147483647 := by decide
    rw [h, hb] at this
    rcases cand_cases s (ix2 0 0) with e | e
    · rw [e, toInt_small _ (by have := flat_lt (ix2 0 0); omega)] at this
      have := flat_lt (ix2 0 0); omega
    · rw [e, toInt_small _ (by omega)] at this; omega
  · rcases cand_cases s i with e | e
    · exact ⟨_, (flat_lt i).le, h.trans e⟩
    · exact ⟨_, le_refl _, h.trans e⟩

/-- The row of a picked number. -/
def rowOf (n : ℕ) : ℕ := min (n / 128) 31

theorem off1_eq : ∀ n : Fin 4097, k0_off1 (BitVec.ofNat 32 n.val) = ![0, rowOf n.val, 0] := by decide +kernel
theorem off7_eq : ∀ n : Fin 4097, k0_off7 (BitVec.ofNat 32 n.val) = ![1, rowOf n.val, 0] := by decide +kernel

theorem chk1_pick (s : FVec F S32x128 .f32) : k0_chk1 (pick s) := by
  obtain ⟨n, hn, e⟩ := pick_nat s
  intro a
  have := off1_eq ⟨n, by omega⟩
  rw [e, this]
  have : rowOf n ≤ 31 := min_le_right _ _
  match a with
  | 0 => show _ + 1 ≤ 2; simp
  | 1 => show rowOf n + 1 ≤ 32; omega
  | 2 => show 0 + 128 ≤ 128; omega

theorem chk3_pick (s : FVec F S32x128 .f32) : k0_chk3 (pick s) := by
  obtain ⟨n, hn, e⟩ := pick_nat s
  intro a
  have := off7_eq ⟨n, by omega⟩
  rw [e, this]
  have : rowOf n ≤ 31 := min_le_right _ _
  match a with
  | 0 => show _ + 1 ≤ 2; simp
  | 1 => show rowOf n + 1 ≤ 32; omega
  | 2 => show 0 + 128 ≤ 128; omega

/-- The second image's pick is the same function of its scores. -/
theorem pick_eq (s : FVec F S32x128 .f32) :
    extractAt ![0, 0, 0] (k0_pay26 k0_pay36 (k0_pay24 s) k0_pay25) inpos_S1x1x1_p0_0_0 = pick s := rfl

end Cert.Proof.I

end
-- ==== Proof.I.Trip.lean ====
/- One trip of the kernel's loop as a function of what it finds: the two images' remaining scores and the three result
   buffers, given the five slabs of box data. Then the trip's program computes that function. -/
module

public import proofs.«01_k».proof.Proof.I.Facts
public import proofs.«01_k».proof.Proof.Gen.KernelIdeal.Loops
public import proofs.«01_k».proof.Proof.Gen.KernelIdeal.Frame
public import Idealize.ShloMosaic.Lib.VecWindow

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Minus infinity, the score of an entry that is out. -/
abbrev ninf : F .f32 := Scalar.ofBits .f32 0xFF800000#32

/-- The lane numbers of a column of five rows. -/
abbrev lanes : IVec S5x128 32 := iota .tc S5x128 32 [1] iota_S5x128_d1_w32

/-- The box data the trips read: the corners and the areas, both images. -/
structure Data (F : FTy → Type) where
  x1 : Vec F S2x32x128 .f32
  y1 : Vec F S2x32x128 .f32
  x2 : Vec F S2x32x128 .f32
  y2 : Vec F S2x32x128 .f32
  ar : Vec F S2x32x128 .f32

/-- What the trips change. -/
structure St (F : FTy → Type) where
  s0 : FVec F S32x128 .f32
  s1 : FVec F S32x128 .f32
  bo : Vec F S2x101x4 .f32
  so : Vec F S2x101x1 .f32
  co : Vec F S2x101x1 .i32

/-- Image 0's slab. -/
def slab0 (x : Vec F S2x32x128 .f32) : Vec F S1x32x128 .f32 :=
  VecWindow.window (s := S2x32x128) x ![0, 0, 0] S1x32x128.size inb_S2x32x128_S1x32x128_0_0_0

/-- Image 1's slab. -/
def slab1 (x : Vec F S2x32x128 .f32) : Vec F S1x32x128 .f32 :=
  VecWindow.window (s := S2x32x128) x ![1, 0, 0] S1x32x128.size inb_S2x32x128_S1x32x128_1_0_0

/-- The row of image 0 that holds the picked entry. -/
def row0 (s : FVec F S32x128 .f32) (x : Vec F S2x32x128 .f32) : Vec F S1x1x128 .f32 :=
  VecWindow.window (s := S2x32x128) x (k0_off1 (pick s)) S1x1x128.size (k0_off1_inb _ (chk1_pick s))

/-- The row of image 1 that holds the picked entry. -/
def row1 (s : FVec F S32x128 .f32) (x : Vec F S2x32x128 .f32) : Vec F S1x1x128 .f32 :=
  VecWindow.window (s := S2x32x128) x (k0_off7 (pick s)) S1x1x128.size (k0_off7_inb _ (chk3_pick s))

/-- The picked entry's corners and area, as a column. -/
def col0 (d : Data F) (s : FVec F S32x128 .f32) : FVec F S5x1 .f32 :=
  k0_pay10 k0_pay36 lanes s (row0 s d.x1) (row0 s d.y1) (row0 s d.x2) (row0 s d.y2) (row0 s d.ar)

def col1 (d : Data F) (s : FVec F S32x128 .f32) : FVec F S5x1 .f32 :=
  k0_pay10 k0_pay36 lanes s (row1 s d.x1) (row1 s d.y1) (row1 s d.x2) (row1 s d.y2) (row1 s d.ar)

/-- The first entry of a column. -/
def fst5 (c : FVec F S5x1 .f32) : FVec F S1x1 .f32 := extractStridedSlice S1x1 ![0, 0] c slices_S5x1_o0_0_S1x1

/-- The entries the pick takes out of image 0. -/
def kill0 (d : Data F) (s : FVec F S32x128 .f32) : IVec S32x128 1 :=
  k0_pay15 k0_pay36 (pick s) (col0 d s) (fst5 (col0 d s)) (slab0 d.x1) (slab0 d.y1) (slab0 d.x2) (slab0 d.y2) (slab0 d.ar)

def kill1 (d : Data F) (s : FVec F S32x128 .f32) : IVec S32x128 1 :=
  k0_pay15 k0_pay36 (pick s) (col1 d s) (fst5 (col1 d s)) (slab1 d.x1) (slab1 d.y1) (slab1 d.x2) (slab1 d.y2) (slab1 d.ar)

/-- Is an entry of these scores alive? -/
def alive (s : FVec F S32x128 .f32) : BitVec 1 := Scalar.cmpf .ogt (k0_pay8 s) ninf

/-- One trip. -/
def trip (d : Data F) (k : Fin k0_t1_loop.trips) (σ : St F) : St F where
  s0 := k0_pay22 ninf σ.s0 (kill0 d σ.s0)
  s1 := k0_pay22 ninf σ.s1 (kill1 d σ.s1)
  bo :=
    let a0 := alive σ.s0
    let a1 := alive σ.s1
    let c0 := col0 d σ.s0
    let c1 := col1 d σ.s1
    let b1 := VecWindow.put (s := S2x101x4) σ.bo (k0_off2 k a0) S1x1x1.size (k0_pay16 (fst5 c0))
    let b2 := VecWindow.put (s := S2x101x4) b1 (k0_off3 k a0) S1x1x1.size (k0_pay17 (k0_pay12 c0))
    let b3 := VecWindow.put (s := S2x101x4) b2 (k0_off4 k a0) S1x1x1.size (k0_pay18 (k0_pay13 c0))
    let b4 := VecWindow.put (s := S2x101x4) b3 (k0_off5 k a0) S1x1x1.size (k0_pay19 (k0_pay14 c0))
    let b5 := VecWindow.put (s := S2x101x4) b4 (k0_off8 k a1) S1x1x1.size (k0_pay16 (fst5 c1))
    let b6 := VecWindow.put (s := S2x101x4) b5 (k0_off9 k a1) S1x1x1.size (k0_pay17 (k0_pay12 c1))
    let b7 := VecWindow.put (s := S2x101x4) b6 (k0_off10 k a1) S1x1x1.size (k0_pay18 (k0_pay13 c1))
    VecWindow.put (s := S2x101x4) b7 (k0_off11 k a1) S1x1x1.size (k0_pay19 (k0_pay14 c1))
  so :=
    let o1 := VecWindow.put (s := S2x101x1) σ.so (k0_off6 k (alive σ.s0)) S1x1x1.size (k0_pay20 (k0_pay8 σ.s0))
    VecWindow.put (s := S2x101x1) o1 (k0_off12 k (alive σ.s1)) S1x1x1.size (k0_pay20 (k0_pay8 σ.s1))
  co :=
    let o1 := VecWindow.put (s := S2x101x1) σ.co (k0_off6 k (alive σ.s0)) S1x1x1.size (k0_pay21 (pick σ.s0))
    VecWindow.put (s := S2x101x1) o1 (k0_off12 k (alive σ.s1)) S1x1x1.size (k0_pay21 (pick σ.s1))

/-- A load of a buffer holding `x` is a window of `x`. -/
theorem load_rep {κ : Kind} {sp : Space} {s : Shape} {e : EltTy} (v : View sig κ sp s e) (x : Vec F s e) {off size : Fin s.rank → ℕ}
    (inb : ∀ a, off a + size a ≤ s.size a) :
    v.readAt (Elt F) (Rect.unit off size inb).toLoadRect (v.rep x) = VecWindow.window x off size inb :=
  View.readAt_rep_unit v x inb rfl inb

/-- A store's contents, read whole, are what was there with the payload put over. -/
theorem store_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e))
    {x x' : Vec F s e} (hx : v.read (Elt F) (v.writes (Elt F) f L) = x) (hx' : VecWindow.put x off size w = x') :
    v.read (Elt F) (v.writes (Elt F) f (⟨Rect.unit off size inb, w⟩ :: L)) = x' := by
  rw [View.read_writes_cons_put v f inb w L rfl, hx, ← hx']

theorem store_nil {κ : Kind} {sp : Space} {s : Shape} {e : EltTy} (v : View sig κ sp s e) (x : Vec F s e) :
    v.read (Elt F) (v.writes (Elt F) (v.rep x) []) = x := by
  rw [View.writes_nil, View.read_rep]

section Run

variable (c : Dev nD)
  (arg0 : Memref sig .tc .vmem S2x32x128 .f32) (harg0 : arg0.IsWhole) (arg1 : Memref sig .tc .vmem S2x32x128 .f32) (harg1 : arg1.IsWhole)
  (arg2 : Memref sig .tc .vmem S2x32x128 .f32) (harg2 : arg2.IsWhole) (arg3 : Memref sig .tc .vmem S2x32x128 .f32) (harg3 : arg3.IsWhole)
  (arg4 : Memref sig .tc .vmem S2x32x128 .f32) (harg4 : arg4.IsWhole) (arg5 : Memref sig .tc .vmem S2x101x4 .f32) (harg5 : arg5.IsWhole)
  (arg6 : Memref sig .tc .vmem S2x101x1 .f32) (harg6 : arg6.IsWhole) (arg7 : Memref sig .tc .vmem S2x101x1 .i32) (harg7 : arg7.IsWhole)
  (arg8 : Memref sig .tc .vmem S2x32x128 .f32) (harg8 : arg8.IsWhole)

/-- A memref held whole at a vector of values. -/
abbrev held {sp : Space} {s : Shape} {e : EltTy} (m : Memref sig .tc sp s e) (x : Vec F s e) : sProp 𝕄 :=
  (m.view.loc (c : Thread nD τ) ↦[m.view.set]{fullShare} m.view.rep x)

/-- What a trip finds and leaves: the box data and the results so far. -/
abbrev TripHeld (d : Data F) (σ : St F) : sProp 𝕄 :=
  iprop(held c arg0 d.x1 ∗ held c arg1 d.y1 ∗ held c arg2 d.x2 ∗ held c arg3 d.y2 ∗ held c arg8 d.ar
    ∗ held c arg5 σ.bo ∗ held c arg6 σ.so ∗ held c arg7 σ.co)

set_option maxHeartbeats 4000000 in
/-- A trip's program leaves what `trip` says. -/
theorem trip_sound (d : Data F) (σ : St F) (k : Fin k0_t1_loop.trips) :
    TripHeld c arg0 arg1 arg2 arg3 arg5 arg6 arg7 arg8 d σ
      ⊢ wp frame (wpE (defs₀ (F := F)) 𝒱₀ c none) Set.univ
        (k0_t1_body arg0 harg0 arg1 harg1 arg2 harg2 arg3 harg3 arg4 harg4 arg5 harg5 arg6 harg6 arg7 harg7 arg8 harg8 k0_pay36 lanes ninf k (σ.s0, σ.s1))
        (fun r => iprop(TripHeld c arg0 arg1 arg2 arg3 arg5 arg6 arg7 arg8 d (trip d k σ) ∗ ⌜r = ((trip d k σ).s0, (trip d k σ).s1)⌝)) := by
  have h1 := chk1_pick σ.s0
  have h3 := chk3_pick σ.s1
  unfold k0_t1_body
  iintro ⟨H0, H1, H2, H3, H8, H5, H6, H7⟩
  sl_exec (disch := first | exact chk2_all _ _ | exact chk4_all _ _ | exact h1 | exact h3)
  sl_step
  isplitl
  · isplitl [H0]; · iexact H0
    isplitl [H1]; · iexact H1
    isplitl [H2]; · iexact H2
    isplitl [H3]; · iexact H3
    isplitl [H8]; · iexact H8
    isplitl [H5]
    · iapply (pointsTo_rep_of_read (c : Thread nD τ) arg5 _ fullShare (trip d k σ).bo ?_)
      rotate_left
      · iexact H5
      sl_unfold_run_names
      simp only [load_rep]
      exact store_put _ _ _ _ _ (store_put _ _ _ _ _ (store_put _ _ _ _ _ (store_put _ _ _ _ _ (store_put _ _ _ _ _ (store_put _ _ _ _ _ (store_put _ _ _ _ _ (store_put _ _ _ _ _ (store_nil _ _) rfl) rfl) rfl) rfl) rfl) rfl) rfl) rfl
    isplitl [H6]
    · iapply (pointsTo_rep_of_read (c : Thread nD τ) arg6 _ fullShare (trip d k σ).so ?_)
      rotate_left
      · iexact H6
      sl_unfold_run_names
      simp only [load_rep]
      exact store_put _ _ _ _ _ (store_put _ _ _ _ _ (store_nil _ _) rfl) rfl
    iapply (pointsTo_rep_of_read (c : Thread nD τ) arg7 _ fullShare (trip d k σ).co ?_)
    rotate_left
    · iexact H7
    sl_unfold_run_names
    simp only [load_rep]
    exact store_put _ _ _ _ _ (store_put _ _ _ _ _ (store_nil _ _) rfl) rfl
  · ipureintro
    sl_unfold_run_names
    simp only [load_rep]
    rfl

end Run

end Cert.Proof.I

end
-- ==== Proof.I.Loop.lean ====
/- The kernel's loop: what the trips have done after so many of them, and the loop's invariant. -/
module

public import proofs.«01_k».proof.Proof.I.Trip

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state after `k` trips. -/
def stAt (d : Data F) (σ : St F) : ℕ → St F
  | 0 => σ
  | k + 1 => if h : k < k0_t1_loop.trips then trip d ⟨k, h⟩ (stAt d σ k) else stAt d σ k

theorem stAt_succ (d : Data F) (σ : St F) (k : Fin k0_t1_loop.trips) : stAt d σ (k.val + 1) = trip d k (stAt d σ k.val) := by
  rw [stAt, dif_pos k.isLt]

/-- A buffer's contents before trip `k`: those the loop found before the first, a vector's after. -/
def buf {sp : Space} {s : Shape} {e : EltTy} (m : Memref sig .tc sp s e) (g : m.view.ty.Contents (Elt F)) (x : Vec F s e) : ℕ → m.view.ty.Contents (Elt F)
  | 0 => g
  | _ + 1 => m.view.rep x

theorem read_buf {sp : Space} {s : Shape} {e : EltTy} (m : Memref sig .tc sp s e) (g : m.view.ty.Contents (Elt F)) (x : Vec F s e) (k : ℕ)
    (h : k = 0 → m.view.read (Elt F) g = x) : m.view.read (Elt F) (buf m g x k) = x := by
  cases k with
  | zero => exact h rfl
  | succ k => exact View.read_rep _ _

section Inv

variable (c : Dev nD)
  (arg0 : Memref sig .tc .vmem S2x32x128 .f32) (harg0 : arg0.IsWhole) (arg1 : Memref sig .tc .vmem S2x32x128 .f32) (harg1 : arg1.IsWhole)
  (arg2 : Memref sig .tc .vmem S2x32x128 .f32) (harg2 : arg2.IsWhole) (arg3 : Memref sig .tc .vmem S2x32x128 .f32) (harg3 : arg3.IsWhole)
  (arg4 : Memref sig .tc .vmem S2x32x128 .f32) (harg4 : arg4.IsWhole) (arg5 : Memref sig .tc .vmem S2x101x4 .f32) (harg5 : arg5.IsWhole)
  (arg6 : Memref sig .tc .vmem S2x101x1 .f32) (harg6 : arg6.IsWhole) (arg7 : Memref sig .tc .vmem S2x101x1 .i32) (harg7 : arg7.IsWhole)
  (arg8 : Memref sig .tc .vmem S2x32x128 .f32) (harg8 : arg8.IsWhole)

variable (g0 : Buf (Elt F) (arg0.view.loc (c : Thread nD τ))) (g1 : Buf (Elt F) (arg1.view.loc (c : Thread nD τ))) (g2 : Buf (Elt F) (arg2.view.loc (c : Thread nD τ))) (g3 : Buf (Elt F) (arg3.view.loc (c : Thread nD τ))) (g8 : Buf (Elt F) (arg8.view.loc (c : Thread nD τ))) (g5 : Buf (Elt F) (arg5.view.loc (c : Thread nD τ))) (g6 : Buf (Elt F) (arg6.view.loc (c : Thread nD τ))) (g7 : Buf (Elt F) (arg7.view.loc (c : Thread nD τ)))
  (init : FVec F S32x128 .f32 × FVec F S32x128 .f32)

/-- The box data in the buffers. -/
def dataOf : Data F := ⟨arg0.view.read (Elt F) g0, arg1.view.read (Elt F) g1, arg2.view.read (Elt F) g2, arg3.view.read (Elt F) g3, arg8.view.read (Elt F) g8⟩

/-- The state the loop starts in. -/
def startOf : St F := ⟨init.1, init.2, arg5.view.read (Elt F) g5, arg6.view.read (Elt F) g6, arg7.view.read (Elt F) g7⟩

/-- What the buffers hold and what the loop carries before trip `k`. -/
def loopHeld (k : ℕ) (acc : FVec F S32x128 .f32 × FVec F S32x128 .f32) : sProp 𝕄 :=
  iprop((arg0.view.loc (c : Thread nD τ) ↦[arg0.view.set]{fullShare} buf arg0 g0 (dataOf c arg0 arg1 arg2 arg3 arg8 g0 g1 g2 g3 g8).x1 k)
    ∗ (arg1.view.loc (c : Thread nD τ) ↦[arg1.view.set]{fullShare} buf arg1 g1 (dataOf c arg0 arg1 arg2 arg3 arg8 g0 g1 g2 g3 g8).y1 k)
    ∗ (arg2.view.loc (c : Thread nD τ) ↦[arg2.view.set]{fullShare} buf arg2 g2 (dataOf c arg0 arg1 arg2 arg3 arg8 g0 g1 g2 g3 g8).x2 k)
    ∗ (arg3.view.loc (c : Thread nD τ) ↦[arg3.view.set]{fullShare} buf arg3 g3 (dataOf c arg0 arg1 arg2 arg3 arg8 g0 g1 g2 g3 g8).y2 k)
    ∗ (arg8.view.loc (c : Thread nD τ) ↦[arg8.view.set]{fullShare} buf arg8 g8 (dataOf c arg0 arg1 arg2 arg3 arg8 g0 g1 g2 g3 g8).ar k)
    ∗ (arg5.view.loc (c : Thread nD τ) ↦[arg5.view.set]{fullShare} buf arg5 g5 (stAt (dataOf c arg0 arg1 arg2 arg3 arg8 g0 g1 g2 g3 g8) (startOf c arg5 arg6 arg7 g5 g6 g7 init) k).bo k)
    ∗ (arg6.view.loc (c : Thread nD τ) ↦[arg6.view.set]{fullShare} buf arg6 g6 (stAt (dataOf c arg0 arg1 arg2 arg3 arg8 g0 g1 g2 g3 g8) (startOf c arg5 arg6 arg7 g5 g6 g7 init) k).so k)
    ∗ (arg7.view.loc (c : Thread nD τ) ↦[arg7.view.set]{fullShare} buf arg7 g7 (stAt (dataOf c arg0 arg1 arg2 arg3 arg8 g0 g1 g2 g3 g8) (startOf c arg5 arg6 arg7 g5 g6 g7 init) k).co k)
    ∗ ⌜acc = ((stAt (dataOf c arg0 arg1 arg2 arg3 arg8 g0 g1 g2 g3 g8) (startOf c arg5 arg6 arg7 g5 g6 g7 init) k).s0, (stAt (dataOf c arg0 arg1 arg2 arg3 arg8 g0 g1 g2 g3 g8) (startOf c arg5 arg6 arg7 g5 g6 g7 init) k).s1)⌝)

theorem loopHeld_step (k : Fin k0_t1_loop.trips) (acc : FVec F S32x128 .f32 × FVec F S32x128 .f32) :
    loopHeld c arg0 arg1 arg2 arg3 arg5 arg6 arg7 arg8 g0 g1 g2 g3 g8 g5 g6 g7 init k.val acc
      ⊢ wp frame (wpE (defs₀ (F := F)) 𝒱₀ c none) Set.univ
        (k0_t1_body arg0 harg0 arg1 harg1 arg2 harg2 arg3 harg3 arg4 harg4 arg5 harg5 arg6 harg6 arg7 harg7 arg8 harg8 k0_pay36 lanes ninf k acc)
        (fun r => loopHeld c arg0 arg1 arg2 arg3 arg5 arg6 arg7 arg8 g0 g1 g2 g3 g8 g5 g6 g7 init (k.val + 1) r) := by
  unfold loopHeld
  iintro ⟨H0, H1, H2, H3, H8, H5, H6, H7, %h⟩
  subst h
  iapply (wp_wand_r frame (wpE (defs₀ (F := F)) 𝒱₀ (c : Thread nD τ) none) Set.univ)
  isplitl
  · iapply (trip_sound c arg0 harg0 arg1 harg1 arg2 harg2 arg3 harg3 arg4 harg4 arg5 harg5 arg6 harg6 arg7 harg7 arg8 harg8 (dataOf c arg0 arg1 arg2 arg3 arg8 g0 g1 g2 g3 g8) (stAt (dataOf c arg0 arg1 arg2 arg3 arg8 g0 g1 g2 g3 g8) (startOf c arg5 arg6 arg7 g5 g6 g7 init) k.val) k)
    isplitl [H0]
    · iapply (pointsTo_rep_of_read (c : Thread nD τ) arg0 _ fullShare _ ?_)
      rotate_left
      · iexact H0
      exact read_buf _ _ _ _ (fun h => rfl)
    isplitl [H1]
    · iapply (pointsTo_rep_of_read (c : Thread nD τ) arg1 _ fullShare _ ?_)
      rotate_left
      · iexact H1
      exact read_buf _ _ _ _ (fun h => rfl)
    isplitl [H2]
    · iapply (pointsTo_rep_of_read (c : Thread nD τ) arg2 _ fullShare _ ?_)
      rotate_left
      · iexact H2
      exact read_buf _ _ _ _ (fun h => rfl)
    isplitl [H3]
    · iapply (pointsTo_rep_of_read (c : Thread nD τ) arg3 _ fullShare _ ?_)
      rotate_left
      · iexact H3
      exact read_buf _ _ _ _ (fun h => rfl)
    isplitl [H8]
    · iapply (pointsTo_rep_of_read (c : Thread nD τ) arg8 _ fullShare _ ?_)
      rotate_left
      · iexact H8
      exact read_buf _ _ _ _ (fun h => rfl)
    isplitl [H5]
    · iapply (pointsTo_rep_of_read (c : Thread nD τ) arg5 _ fullShare _ ?_)
      rotate_left
      · iexact H5
      exact read_buf _ _ _ _ (fun h => by rw [h]; rfl)
    isplitl [H6]
    · iapply (pointsTo_rep_of_read (c : Thread nD τ) arg6 _ fullShare _ ?_)
      rotate_left
      · iexact H6
      exact read_buf _ _ _ _ (fun h => by rw [h]; rfl)
    iapply (pointsTo_rep_of_read (c : Thread nD τ) arg7 _ fullShare _ ?_)
    rotate_left
    · iexact H7
    exact read_buf _ _ _ _ (fun h => by rw [h]; rfl)
  · iintro %r ⟨⟨H0, H1, H2, H3, H8, H5, H6, H7⟩, %h⟩
    rw [stAt_succ]
    isplitl [H0]; · iexact H0
    isplitl [H1]; · iexact H1
    isplitl [H2]; · iexact H2
    isplitl [H3]; · iexact H3
    isplitl [H8]; · iexact H8
    isplitl [H5]; · iexact H5
    isplitl [H6]; · iexact H6
    isplitl [H7]; · iexact H7
    ipureintro; exact h

set_option warn.classDefReducibility false in
/-- The loop's invariant. -/
@[sl_loop] def loopInv : LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 k0_pay36
    (iota .tc S5x128 32 [1] iota_S5x128_d1_w32) (Scalar.ofBits .f32 0xFF800000#32) init where
  inv k acc := loopHeld c arg0 arg1 arg2 arg3 arg5 arg6 arg7 arg8 g0 g1 g2 g3 g8 g5 g6 g7 init k acc
  step k acc := loopHeld_step c arg0 harg0 arg1 harg1 arg2 harg2 arg3 harg3 arg4 harg4 arg5 harg5 arg6 harg6 arg7 harg7 arg8 harg8 g0 g1 g2 g3 g8 g5 g6 g7 init k acc

end Inv

end Cert.Proof.I

end
-- ==== Proof.I.Body.lean ====
/- The kernel's whole body: from the five slabs, any scratch and any results to the results after the last trip. -/
module

public import proofs.«01_k».proof.Proof.I.Loop

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The areas of the boxes, both images, as the body stores them. -/
def areas (x1 y1 x2 y2 : Vec F S2x32x128 .f32) : Vec F S2x32x128 .f32 :=
  VecWindow.put (s := S2x32x128)
    (VecWindow.put (s := S2x32x128) x1 ![0, 0, 0] S1x32x128.size (k0_pay42 (slab0 x1) (slab0 y1) (slab0 x2) (slab0 y2)))
    ![1, 0, 0] S1x32x128.size (k0_pay42 (slab1 x1) (slab1 y1) (slab1 x2) (slab1 y2))

/-- Two slabs put over a buffer leave nothing of what was there. -/
theorem put_slabs (e e' : Vec F S2x32x128 .f32) (w w' : Vec F S1x32x128 .f32) :
    VecWindow.put (s := S2x32x128) (VecWindow.put (s := S2x32x128) e ![0, 0, 0] S1x32x128.size w) ![1, 0, 0] S1x32x128.size w'
      = VecWindow.put (s := S2x32x128) (VecWindow.put (s := S2x32x128) e' ![0, 0, 0] S1x32x128.size w) ![1, 0, 0] S1x32x128.size w' := by
  funext y
  unfold VecWindow.put
  by_cases h1 : ∀ a, (![1, 0, 0] : Fin 3 → ℕ) a ≤ (y a).val ∧ (y a).val < (![1, 0, 0] : Fin 3 → ℕ) a + S1x32x128.size a
  · rw [dif_pos h1, dif_pos h1]
  · rw [dif_neg h1, dif_neg h1]
    have h0 : ∀ a, (![0, 0, 0] : Fin 3 → ℕ) a ≤ (y a).val ∧ (y a).val < (![0, 0, 0] : Fin 3 → ℕ) a + S1x32x128.size a := by
      have b0 : (y 0).val < 2 := (y 0).isLt
      have b1 : (y 1).val < 32 := (y 1).isLt
      have b2 : (y 2).val < 128 := (y 2).isLt
      have n0 : ¬ 1 ≤ (y 0).val := fun h => h1 (by
        intro a; fin_cases a
        · show 1 ≤ (y 0).val ∧ (y 0).val < 1 + 1; omega
        · show 0 ≤ (y 1).val ∧ (y 1).val < 0 + 32; omega
        · show 0 ≤ (y 2).val ∧ (y 2).val < 0 + 128; omega)
      intro a; fin_cases a
      · show 0 ≤ (y 0).val ∧ (y 0).val < 0 + 1; omega
      · show 0 ≤ (y 1).val ∧ (y 1).val < 0 + 32; omega
      · show 0 ≤ (y 2).val ∧ (y 2).val < 0 + 128; omega
    rw [dif_pos h0, dif_pos h0]

/-- The box data the loop reads. -/
def dataIn (x1 y1 x2 y2 : Vec F S2x32x128 .f32) : Data F := ⟨x1, y1, x2, y2, areas x1 y1 x2 y2⟩

/-- The state the loop starts in: each valid entry at its score, every other out, no result yet. -/
def stIn (x1 y1 x2 y2 sc : Vec F S2x32x128 .f32) : St F :=
  ⟨k0_pay41 (slab0 sc) (slab0 x1) (slab0 y1) (slab0 x2) (slab0 y2), k0_pay41 (slab1 sc) (slab1 x1) (slab1 y1) (slab1 x2) (slab1 y2),
    k0_pay49, k0_pay50, k0_pay1⟩

/-- The state the body ends in. -/
def final (x1 y1 x2 y2 sc : Vec F S2x32x128 .f32) : St F := stAt (dataIn x1 y1 x2 y2) (stIn x1 y1 x2 y2 sc) k0_t1_loop.trips

theorem final_of (x1 y1 x2 y2 sc : Vec F S2x32x128 .f32) (d : Data F) (σ : St F) (hd : d = dataIn x1 y1 x2 y2) (hσ : σ = stIn x1 y1 x2 y2 sc) :
    stAt d σ k0_t1_loop.trips = final x1 y1 x2 y2 sc := by
  rw [hd, hσ]; rfl

theorem trips_pos : k0_t1_loop.trips ≠ 0 := by decide

section Body

variable (c : Dev nD)
  (arg0 : Memref sig .tc .vmem S2x32x128 .f32) (harg0 : arg0.IsWhole) (arg1 : Memref sig .tc .vmem S2x32x128 .f32) (harg1 : arg1.IsWhole)
  (arg2 : Memref sig .tc .vmem S2x32x128 .f32) (harg2 : arg2.IsWhole) (arg3 : Memref sig .tc .vmem S2x32x128 .f32) (harg3 : arg3.IsWhole)
  (arg4 : Memref sig .tc .vmem S2x32x128 .f32) (harg4 : arg4.IsWhole) (arg5 : Memref sig .tc .vmem S2x101x4 .f32) (harg5 : arg5.IsWhole)
  (arg6 : Memref sig .tc .vmem S2x101x1 .f32) (harg6 : arg6.IsWhole) (arg7 : Memref sig .tc .vmem S2x101x1 .i32) (harg7 : arg7.IsWhole)
  (arg8 : Memref sig .tc .vmem S2x32x128 .f32) (harg8 : arg8.IsWhole)

theorem start_eq (g5 : Buf (Elt F) (arg5.view.loc (c : Thread nD τ))) (g6 : Buf (Elt F) (arg6.view.loc (c : Thread nD τ)))
    (g7 : Buf (Elt F) (arg7.view.loc (c : Thread nD τ))) (a b : FVec F S32x128 .f32) (σ : St F) (ha : a = σ.s0) (hb : b = σ.s1)
    (h5 : arg5.view.read (Elt F) g5 = σ.bo) (h6 : arg6.view.read (Elt F) g6 = σ.so) (h7 : arg7.view.read (Elt F) g7 = σ.co) :
    startOf c arg5 arg6 arg7 g5 g6 g7 (a, b) = σ := by
  unfold startOf
  rw [h5, h6, h7, ha, hb]

/-- A whole store over a buffer leaves the stored vector. -/
theorem read_fill {sp : Space} {s : Shape} {e : EltTy} (m : Memref sig .tc sp s e) (off : Fin s.rank → ℕ) (inb : ∀ a, off a + s.size a ≤ s.size a)
    (w : Vec F s e) : m.view.read (Elt F) (m.view.writes (Elt F) m.view.junk [⟨Rect.unit off s.size inb, w⟩]) = w := by
  refine store_put _ _ _ _ _ rfl ?_
  funext y
  unfold VecWindow.put
  have h0 : ∀ a, off a = 0 := fun a => by have := inb a; omega
  rw [dif_pos (fun a => by have := (y a).isLt; have := h0 a; omega)]
  exact congrArg w (funext fun a => Fin.ext (by show (y a).val - off a = (y a).val; rw [h0 a]; omega))

set_option maxHeartbeats 4000000 in
theorem body_run (x0 x1 x2 x3 x4 : Vec F S2x32x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (∃ f, arg8.view.loc (c : Thread nD τ) ↦[arg8.view.set]{fullShare} f)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (final x0 x1 x2 x3 x4).bo ∗ owns (c : Thread nD τ) arg6 fullShare (final x0 x1 x2 x3 x4).so
            ∗ owns (c : Thread nD τ) arg7 fullShare (final x0 x1 x2 x3 x4).co
            ∗ (∃ f, arg8.view.loc (c : Thread nD τ) ↦[arg8.view.set]{fullShare} f)) -∗ K ⟨⟩))
      ⊢ wp frame (wpE (defs₀ (F := F)) 𝒱₀ c none) Set.univ (cc0__nms_kernel arg0 harg0 arg1 harg1 arg2 harg2 arg3 harg3 arg4 harg4 arg5 harg5 arg6 harg6 arg7 harg7 arg8 harg8) K := by
  unfold owns
  iintro ⟨⟨%f0, %h0, H0⟩, ⟨%f1, %h1, H1⟩, ⟨%f2, %h2, H2⟩, ⟨%f3, %h3, H3⟩, ⟨%f4, %h4, H4⟩, ⟨%d5, %f5, -, H5⟩, ⟨%d6, %f6, -, H6⟩,
    ⟨%d7, %f7, -, H7⟩, ⟨%f8, H8⟩, Hk⟩
  subst h0 h1 h2 h3 h4
  sl_unfold [cc0__nms_kernel]
  sl_exec
  sl_step
  iapply Hk
  isplitl [H0]
  · iexists _; isplitr; swap; · iexact H0
    ipureintro; exact read_buf _ _ _ _ (fun _ => rfl)
  isplitl [H1]
  · iexists _; isplitr; swap; · iexact H1
    ipureintro; exact read_buf _ _ _ _ (fun _ => rfl)
  isplitl [H2]
  · iexists _; isplitr; swap; · iexact H2
    ipureintro; exact read_buf _ _ _ _ (fun _ => rfl)
  isplitl [H3]
  · iexists _; isplitr; swap; · iexact H3
    ipureintro; exact read_buf _ _ _ _ (fun _ => rfl)
  isplitl [H4]
  · iexists _; isplitr; swap; · iexact H4
    ipureintro; rfl
  isplitl [H5]
  · iexists _; isplitr; swap; · iexact H5
    ipureintro
    refine (read_buf _ _ _ _ (fun h => absurd h trips_pos)).trans (congrArg St.bo (final_of _ _ _ _ _ _ _ ?_ ?_))
    · refine congrArg (Data.mk _ _ _ _) ?_
      exact store_put _ _ _ _ _ (store_put _ _ _ _ _ rfl rfl) (put_slabs _ _ _ _)
    · exact start_eq c arg5 arg6 arg7 _ _ _ _ _ _ rfl rfl (read_fill _ _ _ _) (read_fill _ _ _ _) (read_fill _ _ _ _)
  isplitl [H6]
  · iexists _; isplitr; swap; · iexact H6
    ipureintro
    refine (read_buf _ _ _ _ (fun h => absurd h trips_pos)).trans (congrArg St.so (final_of _ _ _ _ _ _ _ ?_ ?_))
    · refine congrArg (Data.mk _ _ _ _) ?_
      exact store_put _ _ _ _ _ (store_put _ _ _ _ _ rfl rfl) (put_slabs _ _ _ _)
    · exact start_eq c arg5 arg6 arg7 _ _ _ _ _ _ rfl rfl (read_fill _ _ _ _) (read_fill _ _ _ _) (read_fill _ _ _ _)
  isplitl [H7]
  · iexists _; isplitr; swap; · iexact H7
    ipureintro
    refine (read_buf _ _ _ _ (fun h => absurd h trips_pos)).trans (congrArg St.co (final_of _ _ _ _ _ _ _ ?_ ?_))
    · refine congrArg (Data.mk _ _ _ _) ?_
      exact store_put _ _ _ _ _ (store_put _ _ _ _ _ rfl rfl) (put_slabs _ _ _ _)
    · exact start_eq c arg5 arg6 arg7 _ _ _ _ _ _ rfl rfl (read_fill _ _ _ _) (read_fill _ _ _ _) (read_fill _ _ _ _)
  iexists _; iexact H8

end Body

end Cert.Proof.I

end
-- ==== Proof.I.Run.lean ====
/- The whole program's run: the body at the region's blocks, the region in @main, and the arguments unchanged. -/
module

public import proofs.«01_k».proof.Proof.I.Body

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body computes from the five input blocks. -/
def outAt (c : Dev nD) (t : Fin cfg0.N) : St F := final (F := F) (iblk m c 0 t) (iblk m c 1 t) (iblk m c 2 t) (iblk m c 3 t) (iblk m c 4 t)

/-- The proof data of the region: the inputs stay, the results are what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t).bo
    | ⟨6, _⟩ => (outAt m c t).so
    | ⟨7, _⟩ => (outAt m c t).co
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outAt m c t).bo := by dsimp only [dats]
theorem after_6 (c : Dev nD) (t : Fin cfg0.N) : (dats m 0 c).after 6 t = (outAt m c t).so := by dsimp only [dats]
theorem after_7 (c : Dev nD) (t : Fin cfg0.N) : (dats m 0 c).after 7 t = (outAt m c t).co := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The scratch is held whole. -/
theorem scratch_set : (Memref.whole cc0_scratch0 : Memref sig .tc .vmem S2x32x128 .f32).view.set = Finset.univ := View.set_whole _

/-- The body does at every point what the proof data says. -/
theorem body_ok (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7]
  rw [show (dats m 0 c).Φ t.castSucc = Pipeline.ΦA spec0 c from rfl]
  unfold Pipeline.ΦA outAt
  rw [scopedRest0_eq]
  iintro ⟨⟨⟨%f8, H8⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]
  · iexists f8
    rw [scratch_set]; iexact H8
  iintro ⟨H0, H1, H2, H3, H4, H5, H6, H7, ⟨%f9, H8⟩⟩
  isplitl [Hp H8]
  · isplitr [Hp]
    · iexists f9; rw [scratch_set]; iexact H8
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- From any memory with zero counters, every weakly fair run of @main ends, each array as the proof data says and every
    counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end as they began, and every counter at zero. -/
theorem frame_sem : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main m ρ)

end Cert.Proof.I

end
-- ==== Proof.K.Run.lean ====
/- The printed kernel's run: it is the ideal module's program over again, so its run is the one proved there. -/
module

public import proofs.«01_k».proof.Proof.I.Run
public import proofs.«01_k».proof.Proof.Gen.Kernel.Frame

@[expose] public section

set_option maxRecDepth 16384

noncomputable section

namespace Cert.Proof.K

open Cert.Kernel Cert.Kernel.Gen
open Idealize.ShloMosaic Idealize.ShloMosaic.TcCoe
open Idealize.SL.Sem

variable {F : FTy → Type} [FloatOps F]

/-- The two programs' body tables agree. -/
theorem defs₀_same : defs₀ (F := F) = Cert.KernelIdeal.defs₀ (F := F) :=
  congrArg Defs.onTc (funext fun l => by
    match l with
    | ⟨0, _⟩ => exact funext fun ⟨_, _⟩ => rfl)

theorem defs_same : defs (F := F) = Cert.KernelIdeal.defs (F := F) := congrArg (Pipeline.defs (pcfgs (F := F))) defs₀_same

/-- The arguments end as they began, and every counter at zero. -/
theorem frame_sem (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.Proof.I.frame_sem (F := F) m ρ

end Cert.Proof.K

end
-- ==== Proof.R.Run.lean ====
/- The reference's run: its states trip by trip, and its frame. -/
module

public import proofs.«01_k».proof.Proof.Gen.ReferenceIdeal.StepRun
public import Idealize.ShloMosaic.Lib.Quiescent

@[expose] public section

noncomputable section

namespace Cert.Proof.R

open Idealize.ShloMosaic Idealize.ShloMosaic.TcCoe Idealize.SL.Sem Cert.ReferenceIdeal Cert.ReferenceIdeal.Step

variable {F : FTy → Type} [FloatOps F]

/-- The reference's state before trip `n`. -/
def itAt (m : (ℓ : Loc nD τ sig) → Buf (Elt F) ℓ) (c : Dev nD) : ℕ → State F
  | 0 => StepRun.initState m c
  | n + 1 => step n (itAt m c n)

/-- The reference leaves its arguments alone and every semaphore counter at zero: it has none. -/
theorem frame_sem (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => (h c).2.2.2, sem_eq_zero_of_no_sems rfl r.2⟩)
    (StepRun.run_iter m ρ (itAt m) (fun _ => rfl) (fun _ _ => rfl))

end Cert.Proof.R

end
-- ==== Proof.Spec.lean ====
/- The problem's quantities, as functions of the two arguments: boxes, masked scores, overlap, order. -/
module

public import Idealize.ShloMosaic.Lib.Pointwise
public import Idealize.ShloMosaic.Lib.SortFacts

@[expose] public section

set_option maxRecDepth 16384

noncomputable section

namespace Cert.Proof

open Idealize.ShloMosaic

/-- The boxes argument. -/
abbrev Boxes := (⟨4, ![2, 2000, 2, 4]⟩ : Shape).Idx → EReal
/-- The scores argument. -/
abbrev Scores := (⟨3, ![2, 2000, 3]⟩ : Shape).Idx → EReal

/-- Corner `c` of box `i` of image `b`: the boxes of an image in one row, the class running fastest. -/
def box (a0 : Boxes) (b : Fin 2) (i : Fin 4000) (c : Fin 4) : EReal :=
  a0 (ix4 b ⟨i.val / 2, by omega⟩ ⟨i.val % 2, by omega⟩ c)

/-- The score of box `i` of image `b`. -/
def raw (a1 : Scores) (b : Fin 2) (i : Fin 4000) : EReal :=
  a1 (ix3 b ⟨i.val / 2, by omega⟩ ⟨1 + i.val % 2, by omega⟩)

/-- A box counts if its score exceeds the threshold and it has an inside. -/
def Valid (s : EReal) (x : Fin 4 → EReal) : Prop :=
  Ideal.ofBits .f32 0x3DCCCCCD#32 < s ∧ x 0 < x 2 ∧ x 1 < x 3

open Classical in
/-- The score of a box that counts, `⊥` for the others. -/
def score (a0 : Boxes) (a1 : Scores) (b : Fin 2) (i : Fin 4000) : EReal :=
  if Valid (raw a1 b i) (box a0 b i) then raw a1 b i else ⊥

/-- Any way to say that the box counts gives its score. -/
theorem score_of (a0 : Boxes) (a1 : Scores) (b : Fin 2) (i : Fin 4000) (P : Prop) [Decidable P]
    (h : P ↔ Valid (raw a1 b i) (box a0 b i)) : (if P then raw a1 b i else ⊥) = score a0 a1 b i := by
  unfold score
  by_cases hp : P
  · rw [if_pos hp, if_pos (h.1 hp)]
  · rw [if_neg hp, if_neg fun hv => hp (h.2 hv)]

/-- The area of a box. -/
def area (x : Fin 4 → EReal) : EReal := max 0 (x 2 - x 0) * max 0 (x 3 - x 1)

/-- The area two boxes share. -/
def inter (x y : Fin 4 → EReal) : EReal :=
  max 0 (min (x 2) (y 2) - max (x 0) (y 0)) * max 0 (min (x 3) (y 3) - max (x 1) (y 1))

/-- The shared area's part of the area the two cover. -/
def overlap (x y : Fin 4 → EReal) : EReal :=
  Ideal.div (inter x y) (max (area x + area y - inter x y) (Ideal.ofBits .f32 0x3089705F#32))

/-- Two boxes overlap by more than the threshold. -/
def Overlaps (x y : Fin 4 → EReal) : Prop := Ideal.ofBits .f32 0x3E99999A#32 < overlap x y

/-- The boxes of image `b` by score, greatest first, equal scores in their first order. -/
def order (a0 : Boxes) (a1 : Scores) (b : Fin 2) : Fin 4000 → Fin 4000 :=
  sortedFrom fun k k' => decide (score a0 a1 b k' < score a0 a1 b k)

end Cert.Proof

end
-- ==== Proof.I.Host.lean ====
/- What the host lines around the region compute. -/
module

public import proofs.«01_k».proof.Proof.I.Run
public import proofs.«01_k».proof.Proof.Spec
public import Idealize.ShloMosaic.Lib.Pointwise
public import Idealize.ShloMosaic.Lib.Claim
public import Idealize.ShloMosaic.Lib.Pipeline.ValueKit
public import Idealize.ShloMosaic.Lib.StableHlo.Run

@[expose] public section

set_option maxRecDepth 16384

noncomputable section

namespace Cert.Proof.I

open Cert.KernelIdeal Cert.KernelIdeal.Gen
open Idealize.ShloMosaic Idealize.ShloMosaic.TcCoe Idealize.ShloMosaic.Tactic

/-- One number of every box, laid out in a slab and filled up. -/
def slabOf (o : Fin 3 → ℕ) (h : S2x4000x4.Slices o S2x4000x1) (a0 : Boxes) : Vec Ideal S2x32x128 .f32 :=
  shapeCast S2x32x128 (pad S2x4096 ![0, 0] ![0, 96] ![0, 0]
    (shapeCast S2x4000 (extractStridedSlice S2x4000x1 o (shapeCast S2x4000x4 a0 shapeCasts_S2x2000x2x4_S2x4000x4) h)
      shapeCasts_S2x4000x1_S2x4000)
    (sitofp (F := Ideal) .f32 (constantI S_ 32 0#32)) pads_S2x4000_S2x4096_000_0960 h_S_) shapeCasts_S2x4096_S2x32x128

/-- The scores, laid out in a slab and filled up. -/
def scoreSlab (a1 : Scores) : Vec Ideal S2x32x128 .f32 :=
  shapeCast S2x32x128 (pad S2x4096 ![0, 0] ![0, 96] ![0, 0]
    (shapeCast S2x4000 (extractStridedSlice S2x2000x2 ![0, 0, 1] a1 slices_S2x2000x3_S2x2000x2_0_0_1) shapeCasts_S2x2000x2_S2x4000)
    (id (constant (F := Ideal) S_ .f32 0xBF800000#32)) pads_S2x4000_S2x4096_000_0960 h_S_) shapeCasts_S2x4096_S2x32x128

variable (m : (ℓ : Loc nD τ sig) → Buf (Elt Ideal) ℓ)

/-- The region's inputs are the slabs. -/
theorem inputs (c : Dev nD) :
    let a0 := m ((c : Thread nD τ).loc main_arg0)
    V m c main_v4 = slabOf ![0, 0, 0] slices_S2x4000x4_S2x4000x1_0_0_0 a0
      ∧ V m c main_v8 = slabOf ![0, 0, 1] slices_S2x4000x4_S2x4000x1_0_0_1 a0
      ∧ V m c main_v12 = slabOf ![0, 0, 2] slices_S2x4000x4_S2x4000x1_0_0_2 a0
      ∧ V m c main_v16 = slabOf ![0, 0, 3] slices_S2x4000x4_S2x4000x1_0_0_3 a0
      ∧ V m c main_v20 = scoreSlab (m ((c : Thread nD τ).loc main_arg1)) := by
  refine ⟨?_, ?_, ?_, ?_, ?_⟩ <;>
  · simp only [V, V0, hostOps0, hostOps0_1, hostOps0_2, hostOps0_3, hostOps0_4, hostOps0_5, hostOps0_6, hostOps0_7,
      hostOps0_8, hostOps0_9, hostOps0_10, List.flatten_cons, List.flatten_nil, List.append_nil, List.cons_append,
      List.nil_append]
    after_results
    rfl

/-- Each window's block starts at the array's start. -/
theorem rect_self (w : Fin cfg0.W) (t : Fin cfg0.N) (y : ((cfg0.win w).xblock (cfg0.grid.coords t)).Idx) (a) :
    ((((cfg0.win w).rect t).emb y) a).val = (y a).val :=
  Pipeline.Window.rect_emb_val_of_index_zero (cfg0.win w) t a (by fin_cases w <;> rfl) y

/-- The one block of each input is the whole array. -/
theorem blocks (c : Dev nD) :
    iblk m c 0 (0 : Fin 1) = V m c main_v4 ∧ iblk m c 1 (0 : Fin 1) = V m c main_v8
      ∧ iblk m c 2 (0 : Fin 1) = V m c main_v12 ∧ iblk m c 3 (0 : Fin 1) = V m c main_v16
      ∧ iblk m c 4 (0 : Fin 1) = V m c main_v20 :=
  ⟨funext fun y => congrArg (V m c main_v4) (funext fun a => Fin.ext (rect_self 0 (0 : Fin 1) y a)),
    funext fun y => congrArg (V m c main_v8) (funext fun a => Fin.ext (rect_self 1 (0 : Fin 1) y a)),
    funext fun y => congrArg (V m c main_v12) (funext fun a => Fin.ext (rect_self 2 (0 : Fin 1) y a)),
    funext fun y => congrArg (V m c main_v16) (funext fun a => Fin.ext (rect_self 3 (0 : Fin 1) y a)),
    funext fun y => congrArg (V m c main_v20) (funext fun a => Fin.ext (rect_self 4 (0 : Fin 1) y a))⟩

/-- Each result of the region ends as the body leaves it. -/
theorem outputs (c : Dev nD) :
    (dats m 0 c).arrAt 5 (cfgs 0).N = (outAt m c (0 : Fin 1)).bo
      ∧ (dats m 0 c).arrAt 6 (cfgs 0).N = (outAt m c (0 : Fin 1)).so
      ∧ (dats m 0 c).arrAt 7 (cfgs 0).N = (outAt m c (0 : Fin 1)).co := by
  have e : ∀ t : Fin 1, t = 0 := fun t => Subsingleton.elim _ _
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · obtain rfl := e t
    exact congrArg (outAt m c (0 : Fin 1)).bo (funext fun a => Fin.ext (rect_self 5 (0 : Fin 1) y a).symm)
  · obtain rfl := e t
    exact congrArg (outAt m c (0 : Fin 1)).so (funext fun a => Fin.ext (rect_self 6 (0 : Fin 1) y a).symm)
  · obtain rfl := e t
    exact congrArg (outAt m c (0 : Fin 1)).co (funext fun a => Fin.ext (rect_self 7 (0 : Fin 1) y a).symm)

end Cert.Proof.I

end
-- ==== Proof.Masks.lean ====
/- Mask bits as propositions, and the words of the infinities. -/
module

public import Idealize.ShloMosaic.Lib.Pointwise

@[expose] public section

noncomputable section

namespace Cert.Proof

open Idealize.ShloMosaic

/-- The word of minus infinity reads as the least extended real. -/
theorem ofBits_bot : Ideal.ofBits .f32 0xFF800000#32 = ⊥ := by simp [Ideal.ofBits, Ideal.ieee]

/-- The word of infinity reads as the greatest extended real. -/
theorem ofBits_top : Ideal.ofBits .f32 0x7F800000#32 = ⊤ := by simp [Ideal.ofBits, Ideal.ieee]

/-- A choice by a mask bit is the choice by what the bit decides. -/
theorem select_ofBool {α : Type} (P : Prop) [Decidable P] (x y : α) :
    Scalar.select (BitVec.ofBool (decide P)) x y = if P then x else y := by
  by_cases h : P <;> simp [h, Scalar.select]

/-- Two mask bits together. -/
theorem andi_ofBool (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- Either of two mask bits. -/
theorem ori_ofBool (P Q : Prop) [Decidable P] [Decidable Q] :
    IntOp.ori (BitVec.ofBool (decide P)) (BitVec.ofBool (decide Q)) = BitVec.ofBool (decide (P ∨ Q)) := by
  by_cases h : P <;> by_cases h' : Q <;> simp [h, h', IntOp.ori]

/-- A mask bit is set exactly when what it decides holds. -/
theorem ofBool_one (P : Prop) [Decidable P] : BitVec.ofBool (decide P) = 1#1 ↔ P := by
  by_cases h : P <;> simp [h]

end Cert.Proof

end
-- ==== Proof.I.Read.lean ====
/- The kernel's vectors at an entry, over the extended reals. -/
module

public import proofs.«01_k».proof.Proof.I.Body
public import proofs.«01_k».proof.Proof.Spec
public import proofs.«01_k».proof.Proof.Masks
public import Idealize.ShloMosaic.Lib.Pointwise

@[expose] public section

set_option maxRecDepth 16384

noncomputable section

namespace Cert.Proof.I

open Cert.KernelIdeal Cert.KernelIdeal.Gen
open Idealize.ShloMosaic

/-- The place of flat position `j`: its row and its lane. -/
def place (j : Fin 4096) : S32x128.Idx := ix2 ⟨j.val / 128, by omega⟩ ⟨j.val % 128, by omega⟩

/-- The flat position of a place. -/
def flatOf (i : S32x128.Idx) : Fin 4096 := ⟨(i 0).val * 128 + (i 1).val, flat_lt i⟩

theorem place_flatOf (i : S32x128.Idx) : place (flatOf i) = i := by
  have h1 : (i 1).val < 128 := (i 1).isLt
  funext a
  match a with
  | 0 => exact Fin.ext (by show ((i 0).val * 128 + (i 1).val) / 128 = (i 0).val; omega)
  | 1 => exact Fin.ext (by show ((i 0).val * 128 + (i 1).val) % 128 = (i 1).val; omega)

theorem flatOf_place (j : Fin 4096) : flatOf (place j) = j :=
  Fin.ext (by show j.val / 128 * 128 + j.val % 128 = j.val; omega)

/-- The word of a flat position. -/
theorem flat_place (j : Fin 4096) : k0_pay36 (place j) = BitVec.ofNat 32 j.val := by
  rw [flat_apply]
  exact congrArg _ (congrArg Fin.val (flatOf_place j))

/-- Two small numbers' words are equal exactly when the numbers are. -/
theorem eq_word (a b : ℕ) (ha : a < 4097) (hb : b < 4097) :
    IntOp.cmpi .eq (BitVec.ofNat 32 a) (BitVec.ofNat 32 b) = BitVec.ofBool (decide (a = b)) := by
  have h : (BitVec.ofNat 32 a == BitVec.ofNat 32 b) = decide (a = b) := by
    rw [beq_eq_decide]
    refine decide_eq_decide.2 ⟨fun h => ?_, fun h => by rw [h]⟩
    have h' := congrArg BitVec.toInt h
    rw [toInt_small a ha, toInt_small b hb] at h'
    omega
  exact congrArg BitVec.ofBool h

/-- The greatest score. -/
theorem max_spec (s : FVec Ideal S32x128 .f32) : (∀ j, s (place j) ≤ k0_pay8 s) ∧ ∃ j, s (place j) = k0_pay8 s := by
  obtain ⟨j, hj⟩ : ∃ j : S1.Idx, k0_pay8 s = reduceFold reduces_S1x32x128_S1
      (FloatOps.maximumf (F := Ideal) (φ := .f32)) (FloatOps.ofBits .f32 0xFF800000#32)
      (shapeCast S1x32x128 s shapeCasts_S32x128_S1x32x128) j := ⟨_, rfl⟩
  have hsub : ∀ a b : S1.Idx, a = b := fun a b => funext fun x => by
    have h1 := (a x).isLt; have h2 := (b x).isLt
    have hx : S1.size x = 1 := (by decide : ∀ x : Fin S1.rank, S1.size x = 1) x
    exact Fin.ext (by omega)
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [reduceFold_eq_fold, Finset.filter_true_of_mem (fun i _ => hsub _ _)] at hj
  have hj' : k0_pay8 s = Finset.univ.fold (max : EReal → EReal → EReal) (Ideal.ofBits .f32 0xFF800000#32)
    (shapeCast S1x32x128 s shapeCasts_S32x128_S1x32x128) := hj
  rw [ofBits_bot] at hj'
  have h1 := (Finset.fold_max_le (k0_pay8 s)).1 hj'.ge
  have h2 := (Finset.le_fold_max (k0_pay8 s)).1 hj'.le
  have hle : ∀ j, s (place j) ≤ k0_pay8 s := fun j => by
    have := h1.2 ((Shape.reshapeEquiv shapeCasts_S32x128_S1x32x128).symm (place j)) (Finset.mem_univ _)
    simpa [shapeCast] using this
  refine ⟨hle, ?_⟩
  rcases h2 with h | ⟨i, _, h⟩
  · exact ⟨0, le_antisymm (hle 0) (le_trans h bot_le)⟩
  · refine ⟨flatOf (Shape.reshapeEquiv shapeCasts_S32x128_S1x32x128 i), le_antisymm (hle _) ?_⟩
    rw [place_flatOf]
    exact h

/-- The picked entry: the first of the greatest score. -/
theorem pick_first (s : FVec Ideal S32x128 .f32) : ∃ P : Fin 4096, pick s = BitVec.ofNat 32 P.val
    ∧ s (place P) = k0_pay8 s ∧ (∀ j, s (place j) ≤ s (place P)) ∧ ∀ j, s (place j) = s (place P) → P ≤ j := by
  obtain ⟨hle, j₀, hj₀⟩ := max_spec s
  obtain ⟨h1, h2⟩ := pick_spec s
  have hc : ∀ j, cand s (place j) = if s (place j) = k0_pay8 s then BitVec.ofNat 32 j.val else 4096#32 := by
    intro j
    pointwise [cand, flat_place]
  have hb : (pick s).toInt ≤ j₀.val := by
    have := h1 (place j₀)
    rwa [hc, if_pos hj₀, toInt_small _ (by omega)] at this
  rcases h2 with h | ⟨i, h⟩
  · rw [h] at hb
    have : (2147483647#32).toInt = 2147483647 := by decide
    omega
  · rw [← place_flatOf i, hc] at h
    by_cases hi : s (place (flatOf i)) = k0_pay8 s
    · rw [if_pos hi] at h
      refine ⟨flatOf i, h, hi, fun j => (hle j).trans hi.ge, fun j hj => ?_⟩
      have := h1 (place j)
      rw [hc, if_pos (hj.trans hi), h, toInt_small _ (by omega), toInt_small _ (by omega)] at this
      exact Fin.le_def.2 (by omega)
    · rw [if_neg hi] at h
      rw [h] at hb
      have : (4096#32).toInt = 4096 := by decide
      omega

end Cert.Proof.I

end
-- ==== Proof.I.Pay.lean ====
/- One trip's vectors at an entry: the picked entry's column, what it takes out, the stores. -/
module

public import proofs.«01_k».proof.Proof.I.Read

@[expose] public section

set_option maxRecDepth 16384

noncomputable section

namespace Cert.Proof.I

open Cert.KernelIdeal Cert.KernelIdeal.Gen
open Idealize.ShloMosaic

/-- The place of flat position `j` in image `b`'s slab. -/
def place3 {n : ℕ} (b : Fin n) (j : Fin 4096) : (⟨3, ![n, 32, 128]⟩ : Shape).Idx :=
  ix3 b ⟨j.val / 128, by omega⟩ ⟨j.val % 128, by omega⟩

theorem slab0_read (x : Vec Ideal S2x32x128 .f32) (j : Fin 4096) : slab0 x (place3 0 j) = x (place3 0 j) := by
  unfold slab0 VecWindow.window
  congr 1
  funext a
  match a with
  | 0 => rfl
  | 1 => exact Fin.ext (by show 0 + 1 * (j.val / 128) = j.val / 128; omega)
  | 2 => exact Fin.ext (by show 0 + 1 * (j.val % 128) = j.val % 128; omega)

theorem slab1_read (x : Vec Ideal S2x32x128 .f32) (j : Fin 4096) : slab1 x (place3 0 j) = x (place3 1 j) := by
  unfold slab1 VecWindow.window
  congr 1
  funext a
  match a with
  | 0 => rfl
  | 1 => exact Fin.ext (by show 0 + 1 * (j.val / 128) = j.val / 128; omega)
  | 2 => exact Fin.ext (by show 0 + 1 * (j.val % 128) = j.val % 128; omega)

/-- One row of a buffer, at a lane. -/
theorem window_row (x : Vec Ideal S2x32x128 .f32) (off : Fin 3 → ℕ) (inb : ∀ a, off a + S1x1x128.size a ≤ S2x32x128.size a)
    (b : Fin 2) (r : Fin 32) (l : Fin 128) (h : off = ![b.val, r.val, 0]) :
    VecWindow.window (s := S2x32x128) x off S1x1x128.size inb (ix3 0 0 l) = x (ix3 b r l) := by
  subst h
  unfold VecWindow.window
  congr 1
  funext a
  match a with
  | 0 => exact Fin.ext (by show b.val + 1 * 0 = b.val; omega)
  | 1 => exact Fin.ext (by show r.val + 1 * 0 = r.val; omega)
  | 2 => exact Fin.ext (by show 0 + 1 * l.val = l.val; omega)

/-- A picked number's row. -/
theorem rowOf_eq (P : Fin 4096) : rowOf P.val = P.val / 128 := min_eq_left (by omega)

/-- The picked entry's row of image 0, at the picked entry's lane. -/
theorem row0_read (s : FVec Ideal S32x128 .f32) (x : Vec Ideal S2x32x128 .f32) (P : Fin 4096)
    (hP : pick s = BitVec.ofNat 32 P.val) :
    row0 s x (ix3 0 0 ⟨P.val % 128, by omega⟩) = x (place3 0 P) := by
  have h := off1_eq ⟨P.val, by omega⟩
  rw [← hP, rowOf_eq] at h
  exact window_row x _ _ 0 _ _ h

/-- The same of image 1. -/
theorem row1_read (s : FVec Ideal S32x128 .f32) (x : Vec Ideal S2x32x128 .f32) (P : Fin 4096)
    (hP : pick s = BitVec.ofNat 32 P.val) :
    row1 s x (ix3 0 0 ⟨P.val % 128, by omega⟩) = x (place3 1 P) := by
  have h := off7_eq ⟨P.val, by omega⟩
  rw [← hP, rowOf_eq] at h
  exact window_row x _ _ 1 _ _ h

/-- The lane of a picked number. -/
theorem lane_word (P : Fin 4096) : IntOp.andi (BitVec.ofNat 32 P.val) 127#32 = BitVec.ofNat 32 (P.val % 128) := by
  revert P
  decide +kernel

/-- The class of a picked number. -/
theorem class_word (P : Fin 4096) : IntOp.andi (BitVec.ofNat 32 P.val) 1#32 = BitVec.ofNat 32 (P.val % 2) := by
  revert P
  decide +kernel

/-- A sum over the lanes, every lane but one at zero, is that lane's value. -/
theorem sum_lane (P : Fin 4096) (r : Fin 128 → EReal) :
    ∑ l : Fin 128, Scalar.select (IntOp.cmpi .eq (BitVec.ofNat 32 l.val) (Scalar.andi (BitVec.ofNat 32 P.val) 127#32)) (r l) 0
      = r ⟨P.val % 128, by omega⟩ := by
  rw [show Scalar.andi (BitVec.ofNat 32 P.val) 127#32 = BitVec.ofNat 32 (P.val % 128) from lane_word P]
  have h : ∀ l : Fin 128, Scalar.select (IntOp.cmpi .eq (BitVec.ofNat 32 l.val) (BitVec.ofNat 32 (P.val % 128))) (r l) 0
      = if l = ⟨P.val % 128, by omega⟩ then r l else 0 := by
    intro l
    rw [eq_word _ _ (by omega) (by omega), select_ofBool]
    simp only [Fin.ext_iff]
  rw [Finset.sum_congr rfl fun l _ => h l, Finset.sum_ite_eq' Finset.univ]
  exact if_pos (Finset.mem_univ _)

/-- A column entry is the row's value at the picked lane: the sum over the lanes, every other lane at zero. -/
theorem col_read (s : FVec Ideal S32x128 .f32) (P : Fin 4096) (hP : pick s = BitVec.ofNat 32 P.val)
    (r1 r2 r3 r4 r5 : Vec Ideal S1x1x128 .f32) (t : Fin 5) :
    k0_pay10 k0_pay36 lanes s r1 r2 r3 r4 r5 (ix2 t 0)
      = (![r1, r2, r3, r4, r5] t) (ix3 0 0 ⟨P.val % 128, by omega⟩) := by
  have hP' : extractAt ![0, 0, 0] (k0_pay9 k0_pay36 s) inpos_S1x1x1_p0_0_0 = BitVec.ofNat 32 P.val := hP
  unfold k0_pay10
  rw [hP']
  fin_cases t
  all_goals
    pointwise
    exact sum_lane P fun l => _

/-- The shared area, the two boxes' parts in the kernel's order. -/
theorem inter_swap (B E : Fin 4 → EReal) :
    max (min (E 2) (B 2) - max (E 0) (B 0)) 0 * max (min (E 3) (B 3) - max (E 1) (B 1)) 0 = inter B E := by
  unfold inter
  rw [min_comm (E 2), max_comm (E 0), min_comm (E 3), max_comm (E 1), max_comm _ (0 : EReal), max_comm _ (0 : EReal)]

/-- What the picked entry takes out. -/
theorem kill_read (P j : Fin 4096) (c : FVec Ideal S5x1 .f32) (x1 y1 x2 y2 ar : Vec Ideal S1x32x128 .f32)
    (hc : c (ix2 4 0) = area ![c (ix2 0 0), c (ix2 1 0), c (ix2 2 0), c (ix2 3 0)])
    (ha : ar (place3 0 j) = area ![x1 (place3 0 j), y1 (place3 0 j), x2 (place3 0 j), y2 (place3 0 j)]) :
    k0_pay15 k0_pay36 (BitVec.ofNat 32 P.val) c (fst5 c) x1 y1 x2 y2 ar (place j) = 1#1
      ↔ Overlaps ![c (ix2 0 0), c (ix2 1 0), c (ix2 2 0), c (ix2 3 0)]
          ![x1 (place3 0 j), y1 (place3 0 j), x2 (place3 0 j), y2 (place3 0 j)] ∨ j = P := by
  have hf := flat_place j
  unfold place3 at *
  unfold place at *
  pointwise [k0_pay15, k0_pay12, k0_pay13, k0_pay14, fst5, hf, hc, ha]
  rw [eq_word _ _ (by omega) (by omega)]
  simp only [ori_ofBool, ofBool_one]
  rw [Fin.ext_iff]
  refine or_congr ?_ Iff.rfl
  unfold Overlaps overlap
  rw [← inter_swap, add_comm (area ![c (ix2 0 0), _, _, _])]
  exact Iff.rfl

end Cert.Proof.I

end
-- ==== Proof.I.Value.lean ====
/- One trip at an entry: the scores after it, and the slot it fills. -/
module

public import proofs.«01_k».proof.Proof.I.Pay

@[expose] public section

set_option maxRecDepth 16384

noncomputable section

namespace Cert.Proof.I

open Cert.KernelIdeal Cert.KernelIdeal.Gen
open Idealize.ShloMosaic

/-- The corners of an entry. -/
def entry (d : Data Ideal) (b : Fin 2) (j : Fin 4096) : Fin 4 → EReal :=
  ![d.x1 (place3 b j), d.y1 (place3 b j), d.x2 (place3 b j), d.y2 (place3 b j)]

/-- An image's remaining scores. -/
def scores (σ : St Ideal) (b : Fin 2) (j : Fin 4096) : EReal := (![σ.s0, σ.s1] b) (place j)

/-- A buffer of one word has one place. -/
theorem one_place (i j : S1x1x1.Idx) : i = j := by
  funext a
  have h1 := (i a).isLt
  have h2 := (j a).isLt
  have ha : S1x1x1.size a = 1 := (by decide : ∀ a : Fin S1x1x1.rank, S1x1x1.size a = 1) a
  exact Fin.ext (by omega)

/-- A trip fills its own slot if an entry is alive; the spare slot is none of the hundred. -/
theorem slot_eq (k : Fin k0_t1_loop.trips) (r : ℕ) (hr : r < 100) (v : BitVec 1) :
    slot k v = r ↔ v = 1#1 ∧ k.val = r := by
  unfold slot
  split
  · simp [*]
  · simp [*]; omega

/-- An entry is alive if the greatest score is above minus infinity. -/
theorem alive_iff (s : FVec Ideal S32x128 .f32) : alive s = 1#1 ↔ ⊥ < k0_pay8 s := by
  unfold alive
  generalize k0_pay8 s = x
  show BitVec.ofBool (decide (Ideal.ofBits .f32 0xFF800000#32 < x)) = 1#1 ↔ _
  rw [ofBool_one, ofBits_bot]

/-- A word put at one place of a buffer, read at a place. -/
theorem put_at {α : Type} {A B C : ℕ} (x : (⟨3, ![A, B, C]⟩ : Shape).Idx → α) (off : Fin 3 → ℕ) (w : S1x1x1.Idx → α)
    (b' r' t' : ℕ) (h : off = ![b', r', t']) (b : Fin A) (r : Fin B) (t : Fin C) :
    VecWindow.put (s := ⟨3, ![A, B, C]⟩) x off S1x1x1.size w (ix3 b r t)
      = if b' = b.val ∧ r' = r.val ∧ t' = t.val then w (ix3 0 0 0) else x (ix3 b r t) := by
  subst h
  unfold VecWindow.put
  by_cases hc : b' = b.val ∧ r' = r.val ∧ t' = t.val
  · rw [if_pos hc, dif_pos]
    · exact congrArg w (one_place _ _)
    · obtain ⟨rfl, rfl, rfl⟩ := hc
      intro a
      match a with
      | 0 => exact ⟨le_refl _, Nat.lt_succ_self _⟩
      | 1 => exact ⟨le_refl _, Nat.lt_succ_self _⟩
      | 2 => exact ⟨le_refl _, Nat.lt_succ_self _⟩
  · rw [if_neg hc, dif_neg]
    intro h
    apply hc
    have h0 : b' ≤ b.val ∧ b.val < b' + 1 := h 0
    have h1 : r' ≤ r.val ∧ r.val < r' + 1 := h 1
    have h2 : t' ≤ t.val ∧ t.val < t' + 1 := h 2
    omega

variable (d : Data Ideal) (k : Fin k0_t1_loop.trips) (σ : St Ideal)

/-- The columns of both images. -/
def colOf (b : Fin 2) : FVec Ideal S5x1 .f32 := ![col0 d σ.s0, col1 d σ.s1] b

/-- What a slot of the boxes holds after a trip. -/
theorem bo_read (b : Fin 2) (r : Fin 101) (t : Fin 4) (hr : r.val < 100) :
    (trip d k σ).bo (ix3 b r t) = if ⊥ < k0_pay8 (![σ.s0, σ.s1] b) ∧ k.val = r.val
      then colOf d σ b (ix2 ⟨t.val, by omega⟩ 0) else σ.bo (ix3 b r t) := by
  have w0 : ∀ c : FVec Ideal S5x1 .f32, k0_pay16 (fst5 c) (ix3 0 0 0) = c (ix2 0 0) := by
    intro c; pointwise [k0_pay16, fst5]
  have w1 : ∀ c : FVec Ideal S5x1 .f32, k0_pay17 (k0_pay12 c) (ix3 0 0 0) = c (ix2 1 0) := by
    intro c; pointwise [k0_pay17, k0_pay12]
  have w2 : ∀ c : FVec Ideal S5x1 .f32, k0_pay18 (k0_pay13 c) (ix3 0 0 0) = c (ix2 2 0) := by
    intro c; pointwise [k0_pay18, k0_pay13]
  have w3 : ∀ c : FVec Ideal S5x1 .f32, k0_pay19 (k0_pay14 c) (ix3 0 0 0) = c (ix2 3 0) := by
    intro c; pointwise [k0_pay19, k0_pay14]
  unfold trip
  dsimp only
  rw [put_at _ _ _ _ _ _ (off11_eq k _), put_at _ _ _ _ _ _ (off10_eq k _), put_at _ _ _ _ _ _ (off9_eq k _),
    put_at _ _ _ _ _ _ (off8_eq k _), put_at _ _ _ _ _ _ (off5_eq k _), put_at _ _ _ _ _ _ (off4_eq k _),
    put_at _ _ _ _ _ _ (off3_eq k _), put_at _ _ _ _ _ _ (off2_eq k _)]
  simp only [slot_eq k r.val hr, w0, w1, w2, w3, alive_iff]
  fin_cases b <;> fin_cases t <;> simp [colOf]

/-- What a slot of the scores holds after a trip. -/
theorem so_read (b : Fin 2) (r : Fin 101) (hr : r.val < 100) :
    (trip d k σ).so (ix3 b r 0) = if ⊥ < k0_pay8 (![σ.s0, σ.s1] b) ∧ k.val = r.val
      then k0_pay8 (![σ.s0, σ.s1] b) else σ.so (ix3 b r 0) := by
  have w : ∀ v : EReal, k0_pay20 (F := Ideal) v (ix3 0 0 0) = v := by
    intro v; pointwise [k0_pay20]
  unfold trip
  dsimp only
  rw [put_at _ _ _ _ _ _ (off12_eq k _), put_at _ _ _ _ _ _ (off6_eq k _)]
  simp only [slot_eq k r.val hr, w, alive_iff]
  fin_cases b
  · simp
    rfl
  · simp

/-- What a slot of the classes holds after a trip. -/
theorem co_read (b : Fin 2) (r : Fin 101) (hr : r.val < 100) :
    (trip d k σ).co (ix3 b r 0) = if ⊥ < k0_pay8 (![σ.s0, σ.s1] b) ∧ k.val = r.val
      then IntOp.andi (pick (![σ.s0, σ.s1] b)) 1#32 else σ.co (ix3 b r 0) := by
  have w : ∀ v : BitVec 32, k0_pay21 v (ix3 0 0 0) = IntOp.andi v 1#32 := by
    intro v; pointwise [k0_pay21]; rfl
  unfold trip
  dsimp only
  rw [put_at _ _ _ _ _ _ (off12_eq k _), put_at _ _ _ _ _ _ (off6_eq k _)]
  simp only [slot_eq k r.val hr, w, alive_iff]
  fin_cases b
  · simp
    rfl
  · simp

/-- A picked entry's column: its corners, its area. -/
theorem colOf_read (b : Fin 2) (P : Fin 4096) (hP : pick (![σ.s0, σ.s1] b) = BitVec.ofNat 32 P.val) (t : Fin 5) :
    colOf d σ b (ix2 t 0) = (![d.x1, d.y1, d.x2, d.y2, d.ar] t) (place3 b P) := by
  fin_cases b
  · refine (col_read σ.s0 P hP _ _ _ _ _ t).trans ?_
    fin_cases t <;> exact row0_read σ.s0 _ P hP
  · refine (col_read σ.s1 P hP _ _ _ _ _ t).trans ?_
    fin_cases t <;> exact row1_read σ.s1 _ P hP

/-- The scores after a trip: what the picked entry overlaps is out, and the entry itself. -/
theorem scores_trip (hd : ∀ b j, d.ar (place3 b j) = area (entry d b j)) (b : Fin 2) (P : Fin 4096)
    (hP : pick (![σ.s0, σ.s1] b) = BitVec.ofNat 32 P.val) (j : Fin 4096) :
    (Overlaps (entry d b P) (entry d b j) ∨ j = P → scores (trip d k σ) b j = ⊥)
      ∧ (¬(Overlaps (entry d b P) (entry d b j) ∨ j = P) → scores (trip d k σ) b j = scores σ b j) := by
  have hB : ![colOf d σ b (ix2 0 0), colOf d σ b (ix2 1 0), colOf d σ b (ix2 2 0), colOf d σ b (ix2 3 0)] = entry d b P := by
    rw [colOf_read d σ b P hP 0, colOf_read d σ b P hP 1, colOf_read d σ b P hP 2, colOf_read d σ b P hP 3]
    rfl
  have hc : colOf d σ b (ix2 4 0)
      = area ![colOf d σ b (ix2 0 0), colOf d σ b (ix2 1 0), colOf d σ b (ix2 2 0), colOf d σ b (ix2 3 0)] := by
    rw [hB, colOf_read d σ b P hP 4]
    exact hd b P
  have key : ∀ (s : FVec Ideal S32x128 .f32) (kl : IVec S32x128 1), (kl (place j) = 1#1
      ↔ Overlaps (entry d b P) (entry d b j) ∨ j = P) →
      (Overlaps (entry d b P) (entry d b j) ∨ j = P → k0_pay22 ninf s kl (place j) = ⊥)
      ∧ (¬(Overlaps (entry d b P) (entry d b j) ∨ j = P) → k0_pay22 ninf s kl (place j) = s (place j)) := by
    intro s kl h
    have hsel : k0_pay22 ninf s kl (place j) = if kl (place j) = 1#1 then Ideal.ofBits .f32 0xFF800000#32 else s (place j) := rfl
    rw [hsel, ofBits_bot]
    exact ⟨fun h' => if_pos (h.2 h'), fun h' => if_neg fun hk => h' (h.1 hk)⟩
  fin_cases b
  · refine key σ.s0 (kill0 d σ.s0) ?_
    have h := kill_read P j (col0 d σ.s0) (slab0 d.x1) (slab0 d.y1) (slab0 d.x2) (slab0 d.y2) (slab0 d.ar) hc
      (by simp only [slab0_read]; exact hd 0 j)
    simp only [slab0_read] at h
    rw [← show pick σ.s0 = _ from hP] at h
    rw [← hB]
    exact h
  · refine key σ.s1 (kill1 d σ.s1) ?_
    have h := kill_read P j (col1 d σ.s1) (slab1 d.x1) (slab1 d.y1) (slab1 d.x2) (slab1 d.y2) (slab1 d.ar) hc
      (by simp only [slab1_read]; exact hd 1 j)
    simp only [slab1_read] at h
    rw [← show pick σ.s1 = _ from hP] at h
    rw [← hB]
    exact h

/-- The start's scores: an entry that counts has its score. -/
theorem scores_start (x1 y1 x2 y2 sc : Vec Ideal S2x32x128 .f32) (b : Fin 2) (j : Fin 4096) (P : Prop) [Decidable P]
    (hP : P ↔ Valid (sc (place3 b j)) (entry (dataIn x1 y1 x2 y2) b j)) :
    scores (stIn x1 y1 x2 y2 sc) b j = if P then sc (place3 b j) else ⊥ := by
  have key : ∀ s a b c e : Vec Ideal S1x32x128 .f32, k0_pay41 s a b c e (place j)
      = if (Ideal.ofBits .f32 0x3DCCCCCD#32 < s (place3 0 j) ∧ a (place3 0 j) < c (place3 0 j)) ∧ b (place3 0 j) < e (place3 0 j)
        then s (place3 0 j) else ⊥ := by
    intro s a b c e
    unfold place place3
    pointwise [k0_pay41, k0_pay37, k0_pay38, k0_pay39, k0_pay40]
    simp only [andi_ofBool, select_ofBool, ofBits_bot]
  have hv : P ↔ ((Ideal.ofBits .f32 0x3DCCCCCD#32 < sc (place3 b j) ∧ x1 (place3 b j) < x2 (place3 b j))
      ∧ y1 (place3 b j) < y2 (place3 b j)) := hP.trans and_assoc.symm
  rw [if_congr hv rfl rfl]
  fin_cases b
  · refine (key _ _ _ _ _).trans ?_
    simp only [slab0_read]
    rfl
  · refine (key _ _ _ _ _).trans ?_
    simp only [slab1_read]
    rfl

/-- The areas the body keeps. -/
theorem areas_read (x1 y1 x2 y2 : Vec Ideal S2x32x128 .f32) (b : Fin 2) (j : Fin 4096) :
    areas x1 y1 x2 y2 (place3 b j) = area (entry (dataIn x1 y1 x2 y2) b j) := by
  have key : ∀ a b c e : Vec Ideal S1x32x128 .f32, k0_pay42 a b c e (place3 0 j)
      = area ![a (place3 0 j), b (place3 0 j), c (place3 0 j), e (place3 0 j)] := by
    intro a b c e
    unfold place3
    pointwise [k0_pay42, k0_pay37, k0_pay38, k0_pay39, k0_pay40]
    unfold area
    rw [max_comm _ (0 : EReal), max_comm _ (0 : EReal)]
    rfl
  fin_cases b
  · show areas x1 y1 x2 y2 (place3 0 j) = _
    rw [← slab0_read (areas x1 y1 x2 y2) j]
    have e : slab0 (areas x1 y1 x2 y2) = k0_pay42 (slab0 x1) (slab0 y1) (slab0 x2) (slab0 y2) :=
      (VecWindow.window_put_of_disjoint _ _ _ _ _ _ _ (0 : Fin 3) (Or.inl (le_refl 1))).trans
        (VecWindow.window_put_same _ _ _ _ _)
    refine (congrFun e _).trans ((key _ _ _ _).trans ?_)
    simp only [slab0_read]
    rfl
  · show areas x1 y1 x2 y2 (place3 1 j) = _
    rw [← slab1_read (areas x1 y1 x2 y2) j]
    have e : slab1 (areas x1 y1 x2 y2) = k0_pay42 (slab1 x1) (slab1 y1) (slab1 x2) (slab1 y2) :=
      VecWindow.window_put_same _ _ _ _ _
    refine (congrFun e _).trans ((key _ _ _ _).trans ?_)
    simp only [slab1_read]
    rfl

end Cert.Proof.I

end
-- ==== Proof.I.Rows.lean ====
/- The kernel's loop as a whole: what each row of the results holds after it, and how the scores change. -/
module

public import proofs.«01_k».proof.Proof.I.Value

@[expose] public section

set_option maxRecDepth 16384

noncomputable section

namespace Cert.Proof.I

open Cert.KernelIdeal Cert.KernelIdeal.Gen
open Idealize.ShloMosaic

variable (d : Data Ideal) (σ : St Ideal)

/-- An image's remaining scores before trip `n`. -/
def left (b : Fin 2) (n : ℕ) : Fin 4096 → EReal := scores (stAt d σ n) b

/-- The entry trip `n` picks. -/
def picked (b : Fin 2) (n : ℕ) : Fin 4096 :=
  Classical.choose (pick_first (![(stAt d σ n).s0, (stAt d σ n).s1] b))

theorem picked_spec (b : Fin 2) (n : ℕ) :
    pick (![(stAt d σ n).s0, (stAt d σ n).s1] b) = BitVec.ofNat 32 (picked d σ b n).val
      ∧ left d σ b n (picked d σ b n) = k0_pay8 (![(stAt d σ n).s0, (stAt d σ n).s1] b)
      ∧ (∀ j, left d σ b n j ≤ left d σ b n (picked d σ b n))
      ∧ ∀ j, left d σ b n j = left d σ b n (picked d σ b n) → picked d σ b n ≤ j :=
  Classical.choose_spec (pick_first (![(stAt d σ n).s0, (stAt d σ n).s1] b))

theorem trips_eq : k0_t1_loop.trips = 100 := by decide

/-- What a trip does to the scores. -/
theorem left_succ (hd : ∀ b j, d.ar (place3 b j) = area (entry d b j)) (b : Fin 2) (n : ℕ) (hn : n < 100) (j : Fin 4096) :
    (Overlaps (entry d b (picked d σ b n)) (entry d b j) ∨ j = picked d σ b n → left d σ b (n + 1) j = ⊥)
      ∧ (¬(Overlaps (entry d b (picked d σ b n)) (entry d b j) ∨ j = picked d σ b n) →
        left d σ b (n + 1) j = left d σ b n j) := by
  have h := scores_trip d ⟨n, by rw [trips_eq]; exact hn⟩ (stAt d σ n) hd b (picked d σ b n) (picked_spec d σ b n).1 j
  rw [← stAt_succ] at h
  exact h

open Classical in
/-- The rows after `n` trips: a trip that found an entry alive filled its row, the others are as at the start. -/
theorem rows (b : Fin 2) (r : Fin 101) (hr : r.val < 100) : ∀ n, n ≤ 100 →
    (∀ t, (stAt d σ n).bo (ix3 b r t) = if r.val < n ∧ ⊥ < left d σ b r.val (picked d σ b r.val)
        then entry d b (picked d σ b r.val) t else σ.bo (ix3 b r t))
      ∧ ((stAt d σ n).so (ix3 b r 0) = if r.val < n ∧ ⊥ < left d σ b r.val (picked d σ b r.val)
        then left d σ b r.val (picked d σ b r.val) else σ.so (ix3 b r 0))
      ∧ ((stAt d σ n).co (ix3 b r 0) = if r.val < n ∧ ⊥ < left d σ b r.val (picked d σ b r.val)
        then BitVec.ofNat 32 ((picked d σ b r.val).val % 2) else σ.co (ix3 b r 0))
  | 0, _ => by simp; exact ⟨fun _ => rfl, rfl, rfl⟩
  | n + 1, hn => by
    obtain ⟨ih1, ih2, ih3⟩ := rows b r hr n (by omega)
    obtain ⟨hp, hm, -, -⟩ := picked_spec d σ b n
    have hst := stAt_succ d σ ⟨n, by rw [trips_eq]; omega⟩
    have e1 := fun t => bo_read d ⟨n, by rw [trips_eq]; omega⟩ (stAt d σ n) b r t hr
    have e2 := so_read d ⟨n, by rw [trips_eq]; omega⟩ (stAt d σ n) b r hr
    have e3 := co_read d ⟨n, by rw [trips_eq]; omega⟩ (stAt d σ n) b r hr
    have hcol : ∀ t : Fin 4, colOf d (stAt d σ n) b (ix2 ⟨t.val, by omega⟩ 0) = entry d b (picked d σ b n) t := by
      intro t
      rw [colOf_read d (stAt d σ n) b _ hp]
      fin_cases t <;> rfl
    rw [hp, class_word] at e3
    rw [← hm] at e1 e2 e3
    simp only [hcol] at e1
    dsimp only at hst e1 e2 e3
    rw [hst]
    by_cases hrn : n = r.val
    · subst hrn
      refine ⟨fun t => ?_, ?_, ?_⟩
      · rw [e1, ih1]; simp
      · rw [e2, ih2]; simp
      · rw [e3, ih3]; simp
    · have hlt : r.val < n + 1 ↔ r.val < n := by omega
      refine ⟨fun t => ?_, ?_, ?_⟩
      · rw [e1, if_neg (fun h => hrn h.2), ih1]; simp only [hlt]
      · rw [e2, if_neg (fun h => hrn h.2), ih2]; simp only [hlt]
      · rw [e3, if_neg (fun h => hrn h.2), ih3]; simp only [hlt]

end Cert.Proof.I

end
-- ==== Proof.R.Gather.lean ====
/- The reference's gathers, read entry by entry: each image's own row at the row's index. -/
module

public import proofs.«01_k».proof.ReferenceIdeal
public import Idealize.ShloMosaic.Lib.Pointwise

@[expose] public section

set_option maxRecDepth 16384

noncomputable section

namespace Cert.Proof.R

open Idealize.ShloMosaic

variable {α : Type}

/-- Rows of four, taken by one index per image and row. -/
def boxDims (n : ℕ)
    (wf : GatherDims.WF ⟨3, ![2, 4000, 4]⟩ ⟨3, ![2, n, 1]⟩ ⟨3, ![2, n, 4]⟩ [2] [1] [0] [1] [0] 2 ![1, 1, 4]) :
    GatherDims ⟨3, ![2, 4000, 4]⟩ ⟨3, ![2, n, 1]⟩ ⟨3, ![2, n, 4]⟩ where
  offsetDims := [2]
  collapsedSliceDims := [1]
  operandBatchingDims := [0]
  startIndicesBatchingDims := [0]
  startIndexMap := [1]
  indexVectorDim := 2
  sliceSizes := ![1, 1, 4]
  wf := wf

/-- Single entries, taken by one index per image and entry. -/
def cellDims (n : ℕ) (wf : GatherDims.WF ⟨2, ![2, 4000]⟩ ⟨3, ![2, n, 1]⟩ ⟨2, ![2, n]⟩ [] [1] [0] [1] [0] 2 ![1, 1]) :
    GatherDims ⟨2, ![2, 4000]⟩ ⟨3, ![2, n, 1]⟩ ⟨2, ![2, n]⟩ where
  offsetDims := []
  collapsedSliceDims := [1]
  operandBatchingDims := [0]
  startIndicesBatchingDims := [0]
  startIndexMap := [1]
  indexVectorDim := 2
  sliceSizes := ![1, 1]
  wf := wf

/-- A row number as a word, read as an integer. -/
theorem row_toInt (q : Fin 4000) : (BitVec.ofNat 32 q.val).toInt = q.val := by
  have := q.isLt
  rw [BitVec.toInt_eq_toNat_of_lt, BitVec.toNat_ofNat, Nat.mod_eq_of_lt (by omega)]
  rw [BitVec.toNat_ofNat]
  omega

/-- The row the index names. -/
theorem gather_box (n : ℕ) (wf) (x : (⟨3, ![2, 4000, 4]⟩ : Shape).Idx → α) (idx : IVec ⟨3, ![2, n, 1]⟩ 32)
    (b : Fin 2) (p : Fin n) (c : Fin 4) (q : Fin 4000) (hq : idx (ix3 b p 0) = BitVec.ofNat 32 q.val) :
    Host.gather (boxDims n wf) x idx (ix3 b p c) = x (ix3 b q c) := by
  unfold Host.gather
  congr 1
  funext a
  refine Fin.ext ?_
  have hsi : (boxDims n wf).siIdx (ix3 b p c) ⟨0, Nat.one_pos⟩ = ix3 b p 0 := by
    funext e; fin_cases e <;> rfl
  have h1 : (boxDims n wf).start (ix3 b p c) idx 1 = q.val := by
    show min (idx ((boxDims n wf).siIdx (ix3 b p c) ⟨0, Nat.one_pos⟩)).toInt.toNat 3999 = q.val
    rw [hsi, hq, row_toInt]
    omega
  fin_cases a
  · show 0 + b.val + 0 = b.val
    omega
  · exact h1
  · show 0 + 0 + c.val = c.val
    omega

/-- The entry the index names. -/
theorem gather_cell (n : ℕ) (wf) (x : (⟨2, ![2, 4000]⟩ : Shape).Idx → α) (idx : IVec ⟨3, ![2, n, 1]⟩ 32)
    (b : Fin 2) (p : Fin n) (q : Fin 4000) (hq : idx (ix3 b p 0) = BitVec.ofNat 32 q.val) :
    Host.gather (cellDims n wf) x idx (ix2 b p) = x (ix2 b q) := by
  unfold Host.gather
  congr 1
  funext a
  refine Fin.ext ?_
  have hsi : (cellDims n wf).siIdx (ix2 b p) ⟨0, Nat.one_pos⟩ = ix3 b p 0 := by
    funext e; fin_cases e <;> rfl
  have h1 : (cellDims n wf).start (ix2 b p) idx 1 = q.val := by
    show min (idx ((cellDims n wf).siIdx (ix2 b p) ⟨0, Nat.one_pos⟩)).toInt.toNat 3999 = q.val
    rw [hsi, hq, row_toInt]
    omega
  fin_cases a
  · show 0 + b.val + 0 = b.val
    omega
  · exact h1

end Cert.Proof.R

end
-- ==== Proof.R.Read.lean ====
/- What the reference computes before its loop, read entry by entry. -/
module

public import proofs.«01_k».proof.Proof.Gen.ReferenceIdeal.Step
public import proofs.«01_k».proof.Proof.R.Gather
public import proofs.«01_k».proof.Proof.Spec
public import proofs.«01_k».proof.Proof.Masks

@[expose] public section

set_option maxRecDepth 16384

noncomputable section

namespace Cert.Proof.R

open Idealize.ShloMosaic Cert.ReferenceIdeal Cert.ReferenceIdeal.Step

variable (a0 : Boxes) (a1 : Scores)

/-- The boxes in one row per image. -/
theorem v0_read (b : Fin 2) (p : Fin 4000) (c : Fin 4) : A_main_v0 (F := Ideal) a0 a1 (ix3 b p c) = box a0 b p c := by
  pointwise [A_main_v0, box]

/-- The classes: the parity of the box's number. -/
theorem v7_read (b : Fin 2) (p : Fin 4000) : K_main_v7 (F := Ideal) (ix2 b p) = BitVec.ofNat 32 (p.val % 2) := by
  pointwise [K_main_v7, K_main_v6, K_main_v5, K_main_v4, K_main_v3]

/-- The masked scores. -/
theorem v22_read (b : Fin 2) (p : Fin 4000) : A_main_v22 (F := Ideal) a0 a1 (ix2 b p) = score a0 a1 b p := by
  pointwise [A_main_v22, A_main_v21, A_main_v2, A_main_v1, K_main_call0_v1, K_main_call0_v0, K_main_cst_0, A_main_v15,
    A_main_v9, A_main_v14, A_main_v20, A_main_v19, A_main_v18, A_main_v17, A_main_v16, A_main_v13, A_main_v12,
    A_main_v11, A_main_v10, A_main_v0, K_main_v8, K_main_cst, id_eq]
  simp only [andi_ofBool, select_ofBool, ofBits_bot]
  exact score_of a0 a1 b p _ and_assoc

/-- The order in which a row of pairs, sorted along the row, takes its entries. -/
def rowOrder {α β : Type} (cmp : α × β → α × β → BitVec 1) (x : S2x4000.Idx → α) (y : S2x4000.Idx → β)
    (b : Fin 2) : Fin 4000 → Fin 4000 :=
  sortedFrom fun k k' => cmp (x (ix2 b k), y (ix2 b k)) (x (ix2 b k'), y (ix2 b k')) == 1#1

/-- A row of an array of pairs sorted along its rows: what the two arrays hold at an entry. -/
theorem sort2_at {α β : Type} (cmp : α × β → α × β → BitVec 1) (x : S2x4000.Idx → α) (y : S2x4000.Idx → β)
    (b : Fin 2) (p : Fin 4000) :
    (Host.sort2 S2x4000 1 cmp x y).1 (ix2 b p) = x (ix2 b (rowOrder cmp x y b p))
      ∧ (Host.sort2 S2x4000 1 cmp x y).2 (ix2 b p) = y (ix2 b (rowOrder cmp x y b p)) := by
  have hal : ∀ k : Fin 4000, Shape.Idx.along (s := S2x4000) (ix2 b p) (1 : Fin 2) k = ix2 b k := by
    intro k
    funext t
    match t with
    | 0 => rfl
    | 1 => rfl
  have hrow : ∀ {γ : Type} (z : S2x4000.Idx → γ) (π : (Fin 4000 → Shape.Idx S2x4000) → Fin 4000),
      z (Shape.Idx.along (s := S2x4000) (ix2 b p) (1 : Fin 2) (π (Shape.Idx.along (s := S2x4000) (ix2 b p) (1 : Fin 2))))
        = z (ix2 b (π (ix2 b))) := by
    intro γ z π
    rw [funext hal]
  have hπ := fun {γ : Type} (z : S2x4000.Idx → γ) => hrow z
    fun r => sortedFrom (fun k k' : Fin 4000 => cmp (x (r k), y (r k)) (x (r k'), y (r k')) == 1#1) p
  unfold Host.sort2
  rw [dif_pos (by decide)]
  exact ⟨hπ x, hπ y⟩

/-- The order: entry `p` of the sorted numbers is the box that comes `p`-th. -/
theorem v24_read (b : Fin 2) (p : Fin 4000) :
    A_main_v24 (F := Ideal) a0 a1 (ix2 b p) = BitVec.ofNat 32 (order a0 a1 b p).val := by
  have hx : ∀ x : EReal, Scalar.select (α := EReal) (FloatOps.cmpf (F := Ideal) (φ := .f32) .une x x)
      (FloatOps.ofBits (F := Ideal) .f32 2143289344#32)
      (Scalar.select (α := EReal) (FloatOps.cmpf (F := Ideal) (φ := .f32) .oeq x (FloatOps.ofBits (F := Ideal) .f32 0#32))
        (FloatOps.ofBits (F := Ideal) .f32 0#32) x) = x := by
    intro x
    show Scalar.select (BitVec.ofBool (decide (x ≠ x))) _ (Scalar.select (BitVec.ofBool (decide (x = _))) _ x) = x
    rw [select_ofBool, select_ofBool, if_neg (by simp)]
    split
    · exact Eq.symm ‹_›
    · rfl
  have hcmp : ∀ x y : EReal × BitVec 32, (comparator_f32_i32_d1 (F := Ideal) x y == 1#1) = decide (x.1 < y.1) := by
    intro x y
    unfold comparator_f32_i32_d1
    dsimp only
    rw [hx, hx]
    show (BitVec.ofBool (decide (x.1 < y.1)) == 1#1) = _
    by_cases h : x.1 < y.1 <;> simp [h]
  unfold A_main_v24
  rw [(sort2_at _ _ _ b p).2]
  unfold rowOrder
  simp only [hcmp]
  have hneg : ∀ k : Fin 4000, A_main_v23 (F := Ideal) a0 a1 (ix2 b k) = -score a0 a1 b k := by
    intro k
    rw [← v22_read]
    rfl
  simp only [hneg, EReal.neg_lt_neg_iff]
  rfl

/-- The boxes in score order. -/
theorem v26_read (b : Fin 2) (p : Fin 4000) (c : Fin 4) :
    A_main_v26 (F := Ideal) a0 a1 (ix3 b p c) = box a0 b (order a0 a1 b p) c := by
  refine (gather_box 4000 _ _ _ b p c (order a0 a1 b p) ?_).trans (v0_read a0 a1 _ _ _)
  pointwise [A_main_v25]
  exact v24_read a0 a1 b p

/-- The masked scores in score order. -/
theorem v28_read (b : Fin 2) (p : Fin 4000) :
    A_main_v28 (F := Ideal) a0 a1 (ix2 b p) = score a0 a1 b (order a0 a1 b p) := by
  refine (gather_cell 4000 _ _ _ b p (order a0 a1 b p) ?_).trans (v22_read a0 a1 _ _)
  pointwise [A_main_v27]
  exact v24_read a0 a1 b p

/-- The classes in score order. -/
theorem v30_read (b : Fin 2) (p : Fin 4000) :
    A_main_v30 (F := Ideal) a0 a1 (ix2 b p) = BitVec.ofNat 32 ((order a0 a1 b p).val % 2) := by
  refine (gather_cell 4000 _ _ _ b p (order a0 a1 b p) ?_).trans (v7_read _ _)
  pointwise [A_main_v29]
  exact v24_read a0 a1 b p

/-- The areas in score order. -/
theorem v43_read (b : Fin 2) (p : Fin 4000) :
    A_main_v43 (F := Ideal) a0 a1 (ix2 b p) = area (box a0 b (order a0 a1 b p)) := by
  pointwise [A_main_v43, A_main_v42, A_main_v41, A_main_v40, A_main_v39, A_main_v38, A_main_v37, A_main_v36,
    A_main_v35, A_main_v34, A_main_v33, A_main_v32, A_main_v31, K_main_call2_v1, K_main_call2_v0, K_main_cst_1,
    K_main_call3_v1, K_main_call3_v0, K_main_cst_2, id_eq, v26_read]
  rfl

/-- The areas two boxes share, in score order. -/
theorem v84_read (b : Fin 2) (p q : Fin 4000) :
    A_main_v84 (F := Ideal) a0 a1 (ix3 b p q)
      = inter (box a0 b (order a0 a1 b p)) (box a0 b (order a0 a1 b q)) := by
  pointwise [A_main_v84, A_main_v83, A_main_v82, A_main_v81, A_main_v80, A_main_v79, A_main_v78, A_main_v77,
    A_main_v76, A_main_v75, A_main_v74, A_main_v73, A_main_v72, A_main_v71, A_main_v70, A_main_v69, A_main_v68,
    A_main_v67, A_main_v66, A_main_v65, A_main_v64, A_main_v63, A_main_v62, A_main_v61, A_main_v60, A_main_v59,
    A_main_v58, A_main_v57, A_main_v56, A_main_v55, A_main_v54, A_main_v53, A_main_v52, A_main_v51, A_main_v50,
    A_main_v49, A_main_v48, A_main_v47, A_main_v46, A_main_v45, A_main_v44, K_main_call4_v1, K_main_call4_v0,
    K_main_cst_3, K_main_call5_v1, K_main_call5_v0, K_main_cst_4, id_eq, v26_read]
  rfl

/-- How much two boxes overlap, in score order. -/
theorem v93_read (b : Fin 2) (p q : Fin 4000) :
    A_main_v93 (F := Ideal) a0 a1 (ix3 b p q)
      = overlap (box a0 b (order a0 a1 b p)) (box a0 b (order a0 a1 b q)) := by
  pointwise [A_main_v93, A_main_v92, A_main_v90, A_main_v89, A_main_v88, A_main_v87, A_main_v86, A_main_v85,
    K_main_v91, K_main_cst_5, v84_read, v43_read]
  rfl

end Cert.Proof.R

end
-- ==== Proof.Greedy.lean ====
/- Greedy selection by score, two ways: by a scan over the sorted list, and by taking the best that is left. -/
module

public import Mathlib.Data.EReal.Basic
public import Idealize.ShloMosaic.Lib.SortFacts

@[expose] public section

namespace Cert.Proof

open Idealize.ShloMosaic

/-- A stable sort asks its comparison only about an element and those behind it in the list. -/
theorem stableSort_agree {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort, greatest first: of two sorted positions the earlier holds the greater value, or an equal one that
    stood earlier. -/
theorem sorted_lex {n : ℕ} (f : Fin n → EReal) (R : Fin n → Fin n → Bool) (hR : ∀ a b, R a b = true ↔ f b < f a)
    (k l : Fin n) (hkl : k < l) :
    f (sortedFrom R l) < f (sortedFrom R k)
      ∨ (f (sortedFrom R l) = f (sortedFrom R k) ∧ sortedFrom R k < sortedFrom R l) := by
  classical
  let B : Fin n → Fin n → Bool := fun a b => decide (f b < f a ∨ (f b = f a ∧ a < b))
  have hB : ∀ a b, B a b = true ↔ (f b < f a ∨ (f b = f a ∧ a < b)) := fun a b => decide_eq_true_iff
  have hB' : ∀ a b, B a b = false ↔ (f a < f b ∨ (f a = f b ∧ b ≤ a)) := fun a b => by
    rw [← Bool.not_eq_true, hB]
    constructor
    · intro h
      rcases lt_trichotomy (f a) (f b) with h1 | h1 | h1
      · exact .inl h1
      · exact .inr ⟨h1, not_lt.mp fun h2 => h (.inr ⟨h1.symm, h2⟩)⟩
      · exact absurd (.inl h1) h
    · rintro (h | ⟨h, h'⟩) (g | ⟨g, g'⟩)
      · exact lt_asymm h g
      · exact absurd g h.ne'
      · exact absurd h g.ne'
      · exact absurd g' (not_lt.mpr h')
  have hs : sortedFrom R = sortedFrom B := by
    have hp : sortPositions n R = sortPositions n B := by
      refine stableSort_agree R B _ ((List.pairwise_lt_finRange n).imp fun {a b} hab => ?_)
      rw [Bool.eq_iff_iff, hR, hB]
      exact ⟨.inl, fun h => h.elim id fun h => absurd h.2 (not_lt.mpr hab.le)⟩
    funext k
    unfold sortedFrom
    simp only [List.get_eq_getElem, hp, Fin.val_cast]
  have hno := sortedFrom_noInversion B B (fun a b h => by
      rw [hB] at h; rw [hB']
      exact h.imp_right fun h => ⟨h.1, h.2.le⟩)
    (fun _ _ h => h) (fun a b c h g => by
      rw [hB'] at h g ⊢
      rcases h with h | ⟨h, h'⟩ <;> rcases g with g | ⟨g, g'⟩
      · exact .inl (h.trans g)
      · exact .inl (g ▸ h)
      · exact .inl (h ▸ g)
      · exact .inr ⟨h.trans g, g'.trans h'⟩) k l hkl
  rw [← hs, hB'] at hno
  refine hno.imp_right fun h => ⟨h.1, lt_of_le_of_ne h.2 fun he => ?_⟩
  exact hkl.ne (sortedFrom_injective R he)

/-- The scan. `f n` are the scores before step `n`; step `n` empties every later one that overlaps entry `n`, if that
    one stands. After all steps an entry holds its first score or `⊥`, and it is emptied exactly when a standing
    earlier one overlaps it. -/
theorem scan_end {n : ℕ} (ov : Fin n → Fin n → Prop) (f : ℕ → Fin n → EReal)
    (hs : ∀ q p : Fin n, (⊥ < f q q ∧ ov q p ∧ q < p → f (q + 1) p = ⊥)
      ∧ (¬ (⊥ < f q q ∧ ov q p ∧ q < p) → f (q + 1) p = f q p)) (p : Fin n) :
    ((∃ q < p, ⊥ < f n q ∧ ov q p) → f n p = ⊥) ∧ (¬ (∃ q < p, ⊥ < f n q ∧ ov q p) → f n p = f 0 p) := by
  have settle : ∀ m (p : Fin n), p.val ≤ m → m ≤ n → f m p = f p p := by
    intro m p hm hn
    induction m, hm using Nat.le_induction with
    | base => rfl
    | succ m hm ih =>
      rw [(hs ⟨m, hn⟩ p).2 fun h => absurd h.2.2 (not_lt.mpr (Fin.mk_le_mk.mpr hm) : ¬ (⟨m, hn⟩ : Fin n) < p)]
      exact ih (Nat.le_of_succ_le hn)
  have main : ∀ m, m ≤ n → ∀ p : Fin n,
      ((∃ q < p, q.val < m ∧ ⊥ < f n q ∧ ov q p) → f m p = ⊥)
        ∧ (¬ (∃ q < p, q.val < m ∧ ⊥ < f n q ∧ ov q p) → f m p = f 0 p) := by
    intro m
    induction m with
    | zero => exact fun _ p => ⟨fun ⟨q, _, h, _⟩ => absurd h (Nat.not_lt_zero _), fun _ => rfl⟩
    | succ m ih =>
      intro hm p
      have ihp := ih (Nat.le_of_succ_le hm) p
      have hstep := hs ⟨m, hm⟩ p
      have hset : f n ⟨m, hm⟩ = f m ⟨m, hm⟩ := settle n ⟨m, hm⟩ (Nat.le_of_succ_le hm) le_rfl
      simp only at hstep
      by_cases hc : ⊥ < f m ⟨m, hm⟩ ∧ ov ⟨m, hm⟩ p ∧ (⟨m, hm⟩ : Fin n) < p
      · refine ⟨fun _ => hstep.1 hc, fun h => absurd ⟨⟨m, hm⟩, hc.2.2, Nat.lt_succ_self m, ?_, hc.2.1⟩ h⟩
        rw [hset]; exact hc.1
      · rw [hstep.2 hc]
        constructor
        · rintro ⟨q, hqp, hqm, hq, ho⟩
          rcases Nat.lt_succ_iff_lt_or_eq.mp hqm with hlt | heq
          · exact ihp.1 ⟨q, hqp, hlt, hq, ho⟩
          · have : q = ⟨m, hm⟩ := Fin.ext heq
            subst this
            exact absurd ⟨hset ▸ hq, ho, hqp⟩ hc
        · intro h
          exact ihp.2 fun ⟨q, hqp, hqm, hq, ho⟩ => h ⟨q, hqp, Nat.lt_succ_of_lt hqm, hq, ho⟩
  have hm := main n le_rfl p
  refine ⟨fun ⟨q, h, h1, h2⟩ => hm.1 ⟨q, h, q.isLt, h1, h2⟩, fun h => hm.2 fun ⟨q, h1, _, h2, h3⟩ => h ⟨q, h1, h2, h3⟩⟩

/-- The best that is left, again and again, is the list of those that stand after the scan, in order. `v` are the
    scores, `σ` their order, `g` what the scan leaves, `τ` the order of what it leaves; `s k` is what is left before
    trip `k`, `P k` its first best. -/
theorem greedy {n N K : ℕ} (e : Fin n → Fin N) (he : ∀ i j, e i < e j ↔ i < j)
    (v : Fin n → EReal) (ov : Fin n → Fin n → Prop)
    (σ τ : Fin n → Fin n) (hσ : Function.Bijective σ) (hτ : Function.Bijective τ)
    (hσl : ∀ p q, p < q → v (σ q) < v (σ p) ∨ (v (σ q) = v (σ p) ∧ σ p < σ q))
    (g : Fin n → EReal)
    (hg : ∀ p, ((∃ q < p, ⊥ < g q ∧ ov (σ q) (σ p)) → g p = ⊥)
      ∧ (¬ (∃ q < p, ⊥ < g q ∧ ov (σ q) (σ p)) → g p = v (σ p)))
    (hτl : ∀ p q, p < q → g (τ q) < g (τ p) ∨ (g (τ q) = g (τ p) ∧ τ p < τ q))
    (s : ℕ → Fin N → EReal) (P : ℕ → Fin N) (kill : ℕ → Fin N → Prop)
    (h0 : ∀ i, s 0 (e i) = v i) (h0' : ∀ j, (∀ i, e i ≠ j) → s 0 j = ⊥)
    (hmax : ∀ k < K, ∀ j, s k j ≤ s k (P k)) (hmin : ∀ k < K, ∀ j, s k j = s k (P k) → P k ≤ j)
    (hkill : ∀ k < K, ∀ i j, P k = e i → (kill k (e j) ↔ ov i j ∨ j = i))
    (hs : ∀ k < K, ∀ j, (kill k j → s (k + 1) j = ⊥) ∧ (¬ kill k j → s (k + 1) j = s k j))
    (k : ℕ) (hk : k < K) (hkn : k < n) :
    (⊥ < g (τ ⟨k, hkn⟩) → P k = e (σ (τ ⟨k, hkn⟩)) ∧ s k (P k) = v (σ (τ ⟨k, hkn⟩)) ∧ g (τ ⟨k, hkn⟩) = v (σ (τ ⟨k, hkn⟩)))
      ∧ (g (τ ⟨k, hkn⟩) = ⊥ → s k (P k) = ⊥) := by
  have hgv : ∀ p, ⊥ < g p → g p = v (σ p) := fun p hp =>
    (hg p).2 fun h => absurd ((hg p).1 h) hp.ne'
  -- which are standing stands in front
  have front : ∀ l p, ⊥ < g p → p ≤ τ l → ∃ l' ≤ l, τ l' = p := by
    intro l p hp hpl
    obtain ⟨l', rfl⟩ := hτ.2 p
    refine ⟨l', ?_, rfl⟩
    by_contra hlt
    rw [not_le] at hlt
    rcases hτl l l' hlt with h | ⟨h, h'⟩
    · have hp' := hp.trans h
      rw [hgv _ hp, hgv _ hp'] at h
      rcases lt_or_eq_of_le hpl with h2 | h2
      · rcases hσl _ _ h2 with h3 | ⟨h3, _⟩
        · exact lt_asymm h h3
        · exact h.ne h3.symm
      · rw [h2] at h; exact lt_irrefl _ h
    · exact absurd hpl (not_le.mpr h')
  have mono : ∀ l l', l < l' → ⊥ < g (τ l') → τ l < τ l' := by
    intro l l' hl h1
    by_contra hc
    rw [not_lt] at hc
    obtain ⟨m, hm, hm'⟩ := front l (τ l') h1 hc
    exact absurd (hτ.1 hm' ▸ hm) (not_le.mpr hl)
  have up : ∀ l l', l < l' → ⊥ < g (τ l') → ⊥ < g (τ l) := by
    intro l l' hl h1
    rcases hτl l l' hl with h | ⟨h, _⟩
    · exact bot_le.trans_lt h
    · exact h ▸ h1
  -- what is left before trip `k`
  have left : ∀ k, k ≤ K → (hkn : k ≤ n) → ((∀ l : Fin n, l.val < k → ⊥ < g (τ l) → P l = e (σ (τ l)))
      ∧ ∀ l : Fin n, l.val < k → g (τ l) = ⊥ → ∀ j, s l j = ⊥) →
      (∀ j, (∀ i, e i ≠ j) → s k j = ⊥) ∧
      (∀ p, ((∃ l : Fin n, l.val < k ∧ ⊥ < g (τ l) ∧ (ov (σ (τ l)) (σ p) ∨ p = τ l)) → s k (e (σ p)) = ⊥)
        ∧ (¬ (∃ l : Fin n, l.val < k ∧ ⊥ < g (τ l) ∧ (ov (σ (τ l)) (σ p) ∨ p = τ l)) →
          s k (e (σ p)) = v (σ p) ∨ s k (e (σ p)) = ⊥ ∧ ∃ l : Fin n, l.val < k ∧ g (τ l) = ⊥)) := by
    intro k
    induction k with
    | zero =>
      exact fun _ _ _ => ⟨h0', fun p => ⟨fun ⟨l, h, _⟩ => absurd h (Nat.not_lt_zero _), fun _ => .inl (h0 _)⟩⟩
    | succ k ih =>
      intro hK hn hP
      have hK' : k < K := hK
      obtain ⟨ih1, ih2⟩ := ih (Nat.le_of_succ_le hK) (Nat.le_of_succ_le hn)
        ⟨fun l hl => hP.1 l (Nat.lt_succ_of_lt hl), fun l hl => hP.2 l (Nat.lt_succ_of_lt hl)⟩
      have bot_stays : ∀ j, s k j = ⊥ → s (k + 1) j = ⊥ := fun j hj => by
        by_cases hc : kill k j
        · exact (hs k hK' j).1 hc
        · rw [(hs k hK' j).2 hc, hj]
      refine ⟨fun j hj => bot_stays j (ih1 j hj), fun p => ?_⟩
      by_cases hg0 : ⊥ < g (τ ⟨k, hn⟩)
      · have hPk : P k = e (σ (τ ⟨k, hn⟩)) := hP.1 ⟨k, hn⟩ (Nat.lt_succ_self k) hg0
        have hkl := hkill k hK' _ (σ p) hPk
        constructor
        · rintro ⟨l, hl, hgl, ho⟩
          rcases Nat.lt_succ_iff_lt_or_eq.mp hl with hl' | hl'
          · exact bot_stays _ ((ih2 p).1 ⟨l, hl', hgl, ho⟩)
          · have : l = ⟨k, hn⟩ := Fin.ext hl'
            subst this
            exact (hs k hK' _).1 (hkl.mpr (ho.imp_right fun h => by rw [h]))
        · intro hno
          have hnk : ¬ kill k (e (σ p)) := fun hc => hno ⟨⟨k, hn⟩, Nat.lt_succ_self k, hg0,
            (hkl.mp hc).imp_right fun h => hσ.1 h⟩
          rw [(hs k hK' _).2 hnk]
          rcases (ih2 p).2 (fun ⟨l, hl, h⟩ => hno ⟨l, Nat.lt_succ_of_lt hl, h⟩) with h | ⟨h, l, hl, h'⟩
          · exact .inl h
          · exact .inr ⟨h, l, Nat.lt_succ_of_lt hl, h'⟩
      · have hb : g (τ ⟨k, hn⟩) = ⊥ := not_bot_lt_iff.mp hg0
        have hall := hP.2 ⟨k, hn⟩ (Nat.lt_succ_self k) hb
        exact ⟨fun _ => bot_stays _ (hall _), fun _ => .inr ⟨bot_stays _ (hall _), ⟨k, hn⟩, Nat.lt_succ_self k, hb⟩⟩
  -- what trip `k` picks, given the earlier ones
  have pick : ∀ k, (hk : k < K) → (hkn : k < n) →
      ((⊥ < g (τ ⟨k, hkn⟩) → P k = e (σ (τ ⟨k, hkn⟩)) ∧ s k (P k) = v (σ (τ ⟨k, hkn⟩)))
        ∧ (g (τ ⟨k, hkn⟩) = ⊥ → ∀ j, s k j = ⊥)) := by
    intro k
    induction k using Nat.strong_induction_on with
    | _ k ih =>
      intro hk hkn
      obtain ⟨l1, l2⟩ := left k hk.le hkn.le
        ⟨fun l hl h => ((ih l hl (hl.trans hk) l.isLt).1 h).1, fun l hl h => (ih l hl (hl.trans hk) l.isLt).2 h⟩
      -- whatever is left lies at or behind the next standing one
      have behind : ∀ p, ⊥ < s k (e (σ p)) →
          s k (e (σ p)) = v (σ p) ∧ ⊥ < g (τ ⟨k, hkn⟩) ∧ τ ⟨k, hkn⟩ ≤ p := by
        intro p hp
        have hno := fun h => hp.ne' ((l2 p).1 h)
        have hv : s k (e (σ p)) = v (σ p) := ((l2 p).2 hno).resolve_right fun h => hp.ne' h.1
        refine ⟨hv, ?_⟩
        have hex : ∃ l : Fin n, k ≤ l.val ∧ ⊥ < g (τ l) ∧ τ l ≤ p := by
          by_cases hgp : ⊥ < g p
          · obtain ⟨l, rfl⟩ := hτ.2 p
            exact ⟨l, not_lt.mp fun h => hno ⟨l, h, hgp, .inr rfl⟩, hgp, le_rfl⟩
          · by_cases hq : ∃ q < p, ⊥ < g q ∧ ov (σ q) (σ p)
            · obtain ⟨q, hqp, hgq, ho⟩ := hq
              obtain ⟨l, rfl⟩ := hτ.2 q
              exact ⟨l, not_lt.mp fun h => hno ⟨l, h, hgq, .inl ho⟩, hgq, hqp.le⟩
            · exact absurd ((hg p).2 hq ▸ hv ▸ hp) hgp
        obtain ⟨l, hkl, hgl, hlp⟩ := hex
        rcases Nat.lt_or_eq_of_le hkl with h | h
        · exact ⟨up ⟨k, hkn⟩ l h hgl, (mono ⟨k, hkn⟩ l h hgl).le.trans hlp⟩
        · have : l = ⟨k, hkn⟩ := Fin.ext h.symm
          subst this
          exact ⟨hgl, hlp⟩
      constructor
      · intro hgk
        have hc : s k (e (σ (τ ⟨k, hkn⟩))) = v (σ (τ ⟨k, hkn⟩)) := by
          refine ((l2 _).2 ?_).resolve_right ?_
          · rintro ⟨l, hl, hgl, ho | ho⟩
            · exact hgk.ne' ((hg _).1 ⟨τ l, mono l ⟨k, hkn⟩ hl hgk, hgl, ho⟩)
            · exact hl.ne (congrArg Fin.val (hτ.1 ho)).symm
          · rintro ⟨_, l, hl, hb⟩
            exact (up l ⟨k, hkn⟩ hl hgk).ne' hb
        have hle := hmax k hk (e (σ (τ ⟨k, hkn⟩)))
        have hpos : ⊥ < s k (P k) := lt_of_lt_of_le (hc ▸ hgv _ hgk ▸ hgk) hle
        by_cases hin : ∀ i, e i ≠ P k
        · exact absurd (l1 _ hin) hpos.ne'
        · push Not at hin
          obtain ⟨i, hi⟩ := hin
          obtain ⟨p, rfl⟩ := hσ.2 i
          obtain ⟨hv, _, hp⟩ := behind p (hi ▸ hpos)
          rcases lt_or_eq_of_le hp with h | h
          · exfalso
            rw [hc, ← hi, hv] at hle
            rcases hσl _ _ h with h1 | ⟨h1, h2⟩
            · exact absurd hle (not_le.mpr h1)
            · have := hmin k hk (e (σ (τ ⟨k, hkn⟩))) (by rw [hc, ← hi, hv, h1])
              rw [← hi] at this
              exact absurd ((he _ _).mpr h2) (not_lt.mpr this)
          · rw [h]; exact ⟨hi.symm, by rw [← hi, hv]⟩
      · intro hb j
        by_contra hj
        have hj' : ⊥ < s k j := bot_lt_iff_ne_bot.mpr hj
        by_cases hin : ∀ i, e i ≠ j
        · exact hj (l1 _ hin)
        · push Not at hin
          obtain ⟨i, hi⟩ := hin
          obtain ⟨p, rfl⟩ := hσ.2 i
          exact (behind p (hi ▸ hj')).2.1.ne' hb
  have := pick k hk hkn
  exact ⟨fun h => ⟨(this.1 h).1, (this.1 h).2, hgv _ h⟩, fun h => this.2 h _⟩

end Cert.Proof

end
-- ==== Proof.R.Scan.lean ====
/- The reference's loop at an entry, the loop's invariant, and the results out of the loop's last state. -/
module

public import proofs.«01_k».proof.Proof.R.Read
public import proofs.«01_k».proof.Proof.R.Run
public import proofs.«01_k».proof.Proof.Greedy
public import Idealize.ShloMosaic.Lib.DynamicIndex

@[expose] public section

set_option maxRecDepth 16384

noncomputable section

namespace Cert.Proof.R

open Idealize.ShloMosaic Cert.ReferenceIdeal Cert.ReferenceIdeal.Step

variable (a0 : Boxes) (a1 : Scores)

/-- What the loop keeps: the overlaps; and of each box in score order either the box with its class, or, if it
is gone, nothing. -/
def Keeps (s : State Ideal) : Prop :=
  (∀ p b q, s.main_v106_0 (ix3 p b q) = overlap (box a0 b (order a0 a1 b p)) (box a0 b (order a0 a1 b q)))
    ∧ ∀ b p, s.main_v106_5 (ix2 b p) < ⊤
      ∧ (⊥ < s.main_v106_5 (ix2 b p) → (∀ c, s.main_v106_4 (ix3 b p c) = box a0 b (order a0 a1 b p) c)
        ∧ s.main_v106_6 (ix2 b p) = BitVec.ofNat 32 ((order a0 a1 b p).val % 2))
      ∧ (s.main_v106_5 (ix2 b p) = ⊥ → (∀ c, s.main_v106_4 (ix3 b p c) = 0)
        ∧ s.main_v106_6 (ix2 b p) = 4294967295#32)

/-- The mask of what is gone before the loop. -/
theorem v100_read (hlt : ∀ b p, score a0 a1 b p < ⊤) (b : Fin 2) (p : Fin 4000) :
    A_main_v100 (F := Ideal) a0 a1 (ix2 b p) = BitVec.ofBool (decide (score a0 a1 b (order a0 a1 b p) = ⊥)) := by
  pointwise [A_main_v100, A_main_v99, A_main_v98, A_main_v96, K_main_v95, K_main_v97, K_main_cst_6, K_main_cst_7, v28_read]
  simp only [andi_ofBool, ofBits_bot, ofBits_top]
  by_cases h : score a0 a1 b (order a0 a1 b p) = ⊥
  · simp [h]
  · simp [h, hlt b _, bot_lt_iff_ne_bot]

/-- The scores the loop starts from. -/
theorem v103_read (hlt : ∀ b p, score a0 a1 b p < ⊤) (b : Fin 2) (p : Fin 4000) :
    A_main_v103 (F := Ideal) a0 a1 (ix2 b p) = score a0 a1 b (order a0 a1 b p) := by
  pointwise [A_main_v103, K_main_call7_v1, K_main_call7_v0, K_main_cst_9, id_eq, v100_read a0 a1 hlt, v28_read]
  rw [ofBits_bot]
  split
  · exact Eq.symm ‹_›
  · rfl

/-- The state the loop starts from. -/
theorem keeps_init (hlt : ∀ b p, score a0 a1 b p < ⊤) : Keeps a0 a1 (init a0 a1) := by
  refine ⟨fun p b q => ?_, fun b p => ⟨?_, fun h => ⟨fun c => ?_, ?_⟩, fun h => ⟨fun c => ?_, ?_⟩⟩⟩
  · show A_main_v105 (F := Ideal) a0 a1 (ix3 p b q) = _
    pointwise [A_main_v105, v93_read]
  · show A_main_v103 (F := Ideal) a0 a1 (ix2 b p) < ⊤
    rw [v103_read a0 a1 hlt]
    exact hlt b _
  · replace h : ⊥ < A_main_v103 (F := Ideal) a0 a1 (ix2 b p) := h
    rw [v103_read a0 a1 hlt] at h
    show A_main_v102 (F := Ideal) a0 a1 (ix3 b p c) = _
    pointwise [A_main_v102, A_main_call6_v1, A_main_v101, K_main_call6_v2, K_main_call6_v0, K_main_cst_8, id_eq,
      v100_read a0 a1 hlt, v26_read]
    rw [if_neg h.ne']
  · replace h : ⊥ < A_main_v103 (F := Ideal) a0 a1 (ix2 b p) := h
    rw [v103_read a0 a1 hlt] at h
    show A_main_v104 (F := Ideal) a0 a1 (ix2 b p) = _
    pointwise [A_main_v104, K_main_call8_v1, K_main_call8_v0, K_main_c, id_eq, v100_read a0 a1 hlt, v30_read]
    rw [if_neg h.ne']
  · replace h : A_main_v103 (F := Ideal) a0 a1 (ix2 b p) = ⊥ := h
    rw [v103_read a0 a1 hlt] at h
    show A_main_v102 (F := Ideal) a0 a1 (ix3 b p c) = _
    pointwise [A_main_v102, A_main_call6_v1, A_main_v101, K_main_call6_v2, K_main_call6_v0, K_main_cst_8, id_eq,
      v100_read a0 a1 hlt, v26_read]
    rw [if_pos h]
  · replace h : A_main_v103 (F := Ideal) a0 a1 (ix2 b p) = ⊥ := h
    rw [v103_read a0 a1 hlt] at h
    show A_main_v104 (F := Ideal) a0 a1 (ix2 b p) = _
    pointwise [A_main_v104, K_main_call8_v1, K_main_call8_v0, K_main_c, id_eq, v100_read a0 a1 hlt, v30_read]
    rw [if_pos h]

/-- The index the loop's trip works from. -/
theorem b5_read (s : State Ideal) (q : Fin 4000) (j : S_.Idx) : b5 q.val s j = BitVec.ofNat 32 q.val := by
  have hoff : S4000.Slices ![q.val] S1 := ⟨rfl, fun a => by fin_cases a; exact q.isLt⟩
  unfold b5 b4
  rw [Host.dynamicSlice_eq_extractStridedSlice _ _ _ ![q.val] _ hoff ?_]
  · pointwise [K_main_v94]
  · intro a
    fin_cases a
    exact row_toInt q

/-- The overlaps with the trip's box. -/
theorem b3_read (s : State Ideal) (q : Fin 4000) (b : Fin 2) (p : Fin 4000) :
    b3 q.val s (ix2 b p) = s.main_v106_0 (ix3 q b p) := by
  have hoff : S4000x2x4000.Slices ![q.val, 0, 0] S1x2x4000 :=
    ⟨rfl, fun a => by fin_cases a; exacts [q.isLt, le_refl 2, le_refl 4000]⟩
  unfold b3 b2
  rw [Host.dynamicSlice_eq_extractStridedSlice _ _ _ ![q.val, 0, 0] _ hoff ?_]
  · pointwise
  · intro a
    fin_cases a
    exacts [row_toInt q, rfl, rfl]

/-- The score of the trip's box. -/
theorem b20_read (s : State Ideal) (q : Fin 4000) (b : Fin 2) :
    b20 q.val s (ix1 b) = s.main_v106_5 (ix2 b q) := by
  have hoff : S2x4000.Slices ![0, q.val] S2x1 :=
    ⟨rfl, fun a => by fin_cases a; exacts [le_refl 2, q.isLt]⟩
  unfold b20 b19
  rw [Host.dynamicSlice_eq_extractStridedSlice _ _ _ ![0, q.val] _ hoff ?_]
  · pointwise
  · intro a
    fin_cases a
    · rfl
    · show (select (cmpi .slt (b5 q.val s) (constantI S_ 32 0#32)) (b17 q.val s) (b5 q.val s)
        (Shape.Idx.first Gen.h_S_)).toInt = _
      have hb : ∀ j, (b5 q.val s j).toInt = q.val := fun j => by rw [b5_read]; exact row_toInt q
      rw [select_slt_zero_of_nonneg _ _ _ _ (by rw [hb]; omega)]
      exact hb _

/-- The mask of what a trip empties. -/
theorem b38_read (s : State Ideal) (q : Fin 4000) (b : Fin 2) (p : Fin 4000)
    (hlt : s.main_v106_5 (ix2 b q) < ⊤) :
    b38 q.val s (ix2 b p) = BitVec.ofBool (decide (⊥ < s.main_v106_5 (ix2 b q)
      ∧ Ideal.ofBits .f32 0x3E99999A#32 < s.main_v106_0 (ix3 q b p) ∧ q < p)) := by
  have hc : IntOp.cmpi .sgt (BitVec.ofNat 32 p.val) (BitVec.ofNat 32 q.val) = BitVec.ofBool (decide (q < p)) := by
    show BitVec.ofBool ((BitVec.ofNat 32 q.val).slt (BitVec.ofNat 32 p.val)) = _
    congr 1
    rw [BitVec.slt, row_toInt, row_toInt]
    exact decide_eq_decide.2 (by rw [Fin.lt_def]; omega)
  pointwise [b38, b37, b36, b35, b34, b33, b32, b31, b30, b29, b28, b27, b26, b25, b24, b23, b22, b21, b20_read,
    b3_read, K_main_v94, b5_read]
  rw [hc]
  simp only [andi_ofBool, ofBits_bot, ofBits_top, hlt, and_true, and_assoc]

/-- A trip keeps the invariant, and what it does to the scores. -/
theorem keeps_step (s : State Ideal) (q : Fin 4000) (h : Keeps a0 a1 s) :
    Keeps a0 a1 (step q.val s) ∧ ∀ b p,
      (⊥ < s.main_v106_5 (ix2 b q) ∧ Overlaps (box a0 b (order a0 a1 b q)) (box a0 b (order a0 a1 b p)) ∧ q < p →
        (step q.val s).main_v106_5 (ix2 b p) = ⊥)
      ∧ (¬(⊥ < s.main_v106_5 (ix2 b q) ∧ Overlaps (box a0 b (order a0 a1 b q)) (box a0 b (order a0 a1 b p)) ∧ q < p) →
        (step q.val s).main_v106_5 (ix2 b p) = s.main_v106_5 (ix2 b p)) := by
  obtain ⟨ho, hr⟩ := h
  have h5 : ∀ b p, (step q.val s).main_v106_5 (ix2 b p)
      = if ⊥ < s.main_v106_5 (ix2 b q) ∧ Ideal.ofBits .f32 0x3E99999A#32 < s.main_v106_0 (ix3 q b p) ∧ q < p
        then ⊥ else s.main_v106_5 (ix2 b p) := by
    intro b p
    rw [step_main_v106_5]
    pointwise [b48, b47, b46, b45, b38_read s q b p (hr b q).1]
    rw [ofBits_bot]
  have h6 : ∀ b p, (step q.val s).main_v106_6 (ix2 b p)
      = if ⊥ < s.main_v106_5 (ix2 b q) ∧ Ideal.ofBits .f32 0x3E99999A#32 < s.main_v106_0 (ix3 q b p) ∧ q < p
        then 4294967295#32 else s.main_v106_6 (ix2 b p) := by
    intro b p
    rw [step_main_v106_6]
    pointwise [b52, b51, b50, b49, b38_read s q b p (hr b q).1]
  have h4 : ∀ b p c, (step q.val s).main_v106_4 (ix3 b p c)
      = if ⊥ < s.main_v106_5 (ix2 b q) ∧ Ideal.ofBits .f32 0x3E99999A#32 < s.main_v106_0 (ix3 q b p) ∧ q < p
        then 0 else s.main_v106_4 (ix3 b p c) := by
    intro b p c
    rw [step_main_v106_4]
    pointwise [b44, b43, b42, b41, b40, b39, b38_read s q b p (hr b q).1]
  refine ⟨⟨ho, fun b p => ?_⟩, fun b p => ?_⟩
  · rw [h5, h6]
    simp only [h4]
    split
    · simp
    · exact hr b p
  · rw [h5, ho]
    exact ⟨fun h => if_pos h, fun h => if_neg h⟩

variable {a0 a1}

/-- The loop from its start on: the invariant holds at every trip. -/
theorem keeps_iter (st : ℕ → State Ideal) (h0 : Keeps a0 a1 (st 0)) (hst : ∀ n, st (n + 1) = step n (st n)) :
    ∀ n, n ≤ 4000 → Keeps a0 a1 (st n)
  | 0, _ => h0
  | n + 1, hn => by
      rw [hst]
      exact (keeps_step a0 a1 _ ⟨n, hn⟩ (keeps_iter st h0 hst n (by omega))).1

/-- The scores after the loop: of each box in score order, gone if an earlier one that stands overlaps it. -/
theorem scan_scores (st : ℕ → State Ideal) (h0 : Keeps a0 a1 (st 0)) (hst : ∀ n, st (n + 1) = step n (st n))
    (b : Fin 2) (p : Fin 4000) :
    ((∃ q < p, ⊥ < (st 4000).main_v106_5 (ix2 b q)
        ∧ Overlaps (box a0 b (order a0 a1 b q)) (box a0 b (order a0 a1 b p))) → (st 4000).main_v106_5 (ix2 b p) = ⊥)
      ∧ (¬(∃ q < p, ⊥ < (st 4000).main_v106_5 (ix2 b q)
        ∧ Overlaps (box a0 b (order a0 a1 b q)) (box a0 b (order a0 a1 b p))) →
          (st 4000).main_v106_5 (ix2 b p) = (st 0).main_v106_5 (ix2 b p)) :=
  scan_end (n := 4000) (fun q p => Overlaps (box a0 b (order a0 a1 b q)) (box a0 b (order a0 a1 b p)))
    (fun n p => (st n).main_v106_5 (ix2 b p))
    (fun q p => by
      have h := (keeps_step a0 a1 _ q (keeps_iter st h0 hst q.val q.isLt.le)).2 b p
      rw [← hst] at h
      exact h) p

/-- The order in which the results are taken: greatest remaining score first. -/
def taken (g : S2x4000.Idx → EReal) (b : Fin 2) : Fin 4000 → Fin 4000 :=
  sortedFrom fun p p' => decide (g (ix2 b p') < g (ix2 b p))

/-- The `k`-th entry of the hundred greatest. -/
theorem topK_read (g : S2x4000.Idx → EReal) (b : Fin 2) (k : Fin 100) (hs) :
    (Host.topK S2x100 1 (FloatOps.cmpfTotal (F := Ideal) (φ := .f32) .gt) g hs).1 (ix2 b k)
        = g (ix2 b (taken g b ⟨k.val, by omega⟩))
      ∧ (Host.topK S2x100 1 (FloatOps.cmpfTotal (F := Ideal) (φ := .f32) .gt) g hs).2 (ix2 b k)
        = BitVec.ofNat 32 (taken g b ⟨k.val, by omega⟩).val := by
  have hτ : ∀ y : S2x4000.Idx → BitVec 32,
      rowOrder (fun l r => FloatOps.cmpfTotal (F := Ideal) (φ := .f32) .gt l.1 r.1) g y b = taken g b := by
    intro y
    unfold rowOrder taken
    congr 1
    funext p p'
    show (BitVec.ofBool (decide (g (ix2 b p') < g (ix2 b p))) == 1#1) = _
    by_cases h : g (ix2 b p') < g (ix2 b p) <;> simp [h]
  have hi : ∀ {γ : Type} (z : S2x4000.Idx → γ), extractStridedSlice S2x100 (fun _ => 0) z hs (ix2 b k)
      = z (ix2 b ⟨k.val, by omega⟩) := by
    intro γ z
    pointwise
  unfold Host.topK
  dsimp only
  constructor
  · rw [hi, (sort2_at _ _ _ _ _).1, hτ]
  · rw [hi, (sort2_at _ _ _ _ _).2, hτ]
    rfl

/-- The results out of the loop's last state: the boxes. -/
theorem v108_read (s : State Ideal) (b : Fin 2) (k : Fin 100) (c : Fin 4) :
    R_main_v108 s (ix3 b k c) = s.main_v106_4 (ix3 b (taken s.main_v106_5 b ⟨k.val, by omega⟩) c) := by
  refine gather_box 100 _ _ _ b k c _ ?_
  pointwise
  exact (topK_read _ b k _).2

/-- The classes. -/
theorem v110_read (s : State Ideal) (b : Fin 2) (k : Fin 100) :
    R_main_v110 s (ix2 b k) = s.main_v106_6 (ix2 b (taken s.main_v106_5 b ⟨k.val, by omega⟩)) := by
  refine gather_cell 100 _ _ _ b k _ ?_
  pointwise
  exact (topK_read _ b k _).2

/-- The scores. -/
theorem v113_read (s : State Ideal) (b : Fin 2) (k : Fin 100) :
    R_main_v113 s (ix2 b k) = if ⊥ < s.main_v106_5 (ix2 b (taken s.main_v106_5 b ⟨k.val, by omega⟩))
      then s.main_v106_5 (ix2 b (taken s.main_v106_5 b ⟨k.val, by omega⟩)) else 0 := by
  have h := (topK_read s.main_v106_5 b k Gen.sliceFits_S2x4000_S2x100).1
  pointwise [R_main_v113, h, id_eq]
  rw [ofBits_bot]

end Cert.Proof.R

end
-- ==== Proof.Match.lean ====
/- The two programs side by side: each row the kernel fills is the reference's. -/
module

public import proofs.«01_k».proof.Proof.I.Rows
public import proofs.«01_k».proof.Proof.R.Scan

@[expose] public section

set_option maxRecDepth 16384

noncomputable section

namespace Cert.Proof

open Idealize.ShloMosaic

/-- A box's flat position in the kernel's slabs. -/
def slabPos (i : Fin 4000) : Fin 4096 := ⟨i.val, by omega⟩

/-- The kernel's slabs hold the boxes and the scores in their order, and past them scores under the threshold. -/
structure Fed (a0 : Boxes) (a1 : Scores) (x1 y1 x2 y2 sc : Vec Ideal Cert.KernelIdeal.S2x32x128 .f32) : Prop where
  box_eq : ∀ b i, I.entry (I.dataIn x1 y1 x2 y2) b (slabPos i) = box a0 b i
  score_eq : ∀ b i, sc (I.place3 b (slabPos i)) = raw a1 b i
  pad : ∀ (b : Fin 2) (j : Fin 4096), 4000 ≤ j.val → ¬ Ideal.ofBits .f32 0x3DCCCCCD#32 < sc (I.place3 b j)

section

variable {a0 : Boxes} {a1 : Scores} {x1 y1 x2 y2 sc : Vec Ideal Cert.KernelIdeal.S2x32x128 .f32}

/-- Trip `k` of the kernel picks the reference's `k`-th box, as long as one is left. -/
theorem trip_match (hf : Fed a0 a1 x1 y1 x2 y2 sc) (hlt : ∀ b p, score a0 a1 b p < ⊤)
    (st : ℕ → Cert.ReferenceIdeal.Step.State Ideal) (h0 : st 0 = Cert.ReferenceIdeal.Step.init a0 a1)
    (hst : ∀ n, st (n + 1) = Cert.ReferenceIdeal.Step.step n (st n)) (b : Fin 2) (k : ℕ) (hk : k < 100) :
    let d := I.dataIn x1 y1 x2 y2
    let σ := I.stIn x1 y1 x2 y2 sc
    let g := (st 4000).main_v106_5
    let i := R.taken g b ⟨k, by omega⟩
    (⊥ < g (ix2 b i) → I.picked d σ b k = slabPos (order a0 a1 b i)
        ∧ I.left d σ b k (I.picked d σ b k) = g (ix2 b i) ∧ ⊥ < I.left d σ b k (I.picked d σ b k))
      ∧ (g (ix2 b i) = ⊥ → I.left d σ b k (I.picked d σ b k) = ⊥) := by
  intro d σ g i
  have hk0 : R.Keeps a0 a1 (st 0) := by rw [h0]; exact R.keeps_init a0 a1 hlt
  have hbi : ∀ R : Fin 4000 → Fin 4000 → Bool, Function.Bijective (sortedFrom R) :=
    fun R => ⟨sortedFrom_injective R, sortedFrom_surjective R⟩
  have hd : ∀ b j, d.ar (I.place3 b j) = area (I.entry d b j) := I.areas_read x1 y1 x2 y2
  have hstart : ∀ p, (st 0).main_v106_5 (ix2 b p) = score a0 a1 b (order a0 a1 b p) := by
    intro p
    rw [h0]
    exact R.v103_read a0 a1 hlt b p
  have H := greedy (n := 4000) (N := 4096) (K := 100) slabPos (fun i j => Iff.rfl) (score a0 a1 b)
    (fun i j => Overlaps (box a0 b i) (box a0 b j)) (order a0 a1 b) (R.taken g b) (hbi _) (hbi _)
    (sorted_lex (score a0 a1 b) _ fun _ _ => decide_eq_true_iff)
    (fun p => g (ix2 b p))
    (fun p => by rw [← hstart p]; exact R.scan_scores st hk0 hst b p)
    (sorted_lex (fun p => g (ix2 b p)) _ fun _ _ => decide_eq_true_iff)
    (I.left d σ b) (I.picked d σ b)
    (fun n j => Overlaps (I.entry d b (I.picked d σ b n)) (I.entry d b j) ∨ j = I.picked d σ b n)
    (fun i => by
      classical
      refine (I.scores_start x1 y1 x2 y2 sc b (slabPos i) (Valid (raw a1 b i) (box a0 b i)) ?_).trans ?_
      · rw [hf.score_eq, hf.box_eq]
      · rw [hf.score_eq]
        exact score_of a0 a1 b i _ Iff.rfl)
    (fun j hj => by
      have hj' : 4000 ≤ j.val := by
        by_contra hc
        exact hj ⟨j.val, by omega⟩ rfl
      refine (I.scores_start x1 y1 x2 y2 sc b j False ?_).trans (if_neg id)
      exact ⟨False.elim, fun hv => hf.pad b j hj' hv.1⟩)
    (fun n _ => (I.picked_spec d σ b n).2.2.1) (fun n _ => (I.picked_spec d σ b n).2.2.2)
    (fun n _ i j hP => by
      rw [hP, hf.box_eq, hf.box_eq]
      refine or_congr Iff.rfl ?_
      simp [slabPos, Fin.ext_iff])
    (fun n hn j => I.left_succ d σ hd b n hn j) k hk (by omega)
  refine ⟨fun h => ?_, H.2⟩
  obtain ⟨h1, h2, h3⟩ := H.1 h
  have e := h2.trans h3.symm
  exact ⟨h1, e, e ▸ h⟩

/-- The results, row by row. -/
theorem rows_match (hf : Fed a0 a1 x1 y1 x2 y2 sc) (hlt : ∀ b p, score a0 a1 b p < ⊤)
    (st : ℕ → Cert.ReferenceIdeal.Step.State Ideal) (h0 : st 0 = Cert.ReferenceIdeal.Step.init a0 a1)
    (hst : ∀ n, st (n + 1) = Cert.ReferenceIdeal.Step.step n (st n)) (b : Fin 2) (k : Fin 100) :
    (∀ t, (I.final x1 y1 x2 y2 sc).bo (ix3 b ⟨k.val, by omega⟩ t)
        = Cert.ReferenceIdeal.Step.R_main_v108 (st 4000) (ix3 b k t))
      ∧ (I.final x1 y1 x2 y2 sc).so (ix3 b ⟨k.val, by omega⟩ 0)
        = Cert.ReferenceIdeal.Step.R_main_v113 (st 4000) (ix2 b k)
      ∧ (I.final x1 y1 x2 y2 sc).co (ix3 b ⟨k.val, by omega⟩ 0)
        = Cert.ReferenceIdeal.Step.R_main_v110 (st 4000) (ix2 b k) := by
  have hk0 : R.Keeps a0 a1 (st 0) := by rw [h0]; exact R.keeps_init a0 a1 hlt
  obtain ⟨-, hr⟩ := R.keeps_iter st hk0 hst 4000 (le_refl _)
  obtain ⟨-, hup, hdn⟩ := hr b (R.taken (st 4000).main_v106_5 b ⟨k.val, by omega⟩)
  obtain ⟨m1, m2⟩ := trip_match hf hlt st h0 hst b k.val k.isLt
  obtain ⟨r1, r2, r3⟩ := I.rows (I.dataIn x1 y1 x2 y2) (I.stIn x1 y1 x2 y2 sc) b ⟨k.val, by omega⟩ k.isLt 100 (le_refl _)
  have hfin : I.final x1 y1 x2 y2 sc = I.stAt (I.dataIn x1 y1 x2 y2) (I.stIn x1 y1 x2 y2 sc) 100 := by
    unfold I.final
    rw [I.trips_eq]
  simp only [R.v108_read, R.v110_read, R.v113_read]
  rw [hfin, r2, r3]
  simp only [r1]
  dsimp only at m1 m2 ⊢
  rcases eq_or_ne ((st 4000).main_v106_5 (ix2 b (R.taken (st 4000).main_v106_5 b ⟨k.val, by omega⟩))) ⊥ with hg | hg
  · obtain ⟨e4, e6⟩ := hdn hg
    have hz : ∀ t, (I.stIn x1 y1 x2 y2 sc).bo (ix3 b ⟨k.val, by omega⟩ t) = 0 := by
      intro t
      show Cert.KernelIdeal.Gen.k0_pay49 (F := Ideal) (ix3 b ⟨k.val, by omega⟩ t) = _
      pointwise [Cert.KernelIdeal.Gen.k0_pay49]
    have hz' : (I.stIn x1 y1 x2 y2 sc).so (ix3 b ⟨k.val, by omega⟩ 0) = 0 := by
      show Cert.KernelIdeal.Gen.k0_pay50 (F := Ideal) (ix3 b ⟨k.val, by omega⟩ 0) = _
      pointwise [Cert.KernelIdeal.Gen.k0_pay50]
    simp only [m2 hg, lt_irrefl, and_false, if_false, hg, e4, e6, hz, hz']
    exact ⟨fun _ => trivial, trivial, rfl⟩
  · have hg' := bot_lt_iff_ne_bot.2 hg
    obtain ⟨e4, e6⟩ := hup hg'
    obtain ⟨p1, p2, p3⟩ := m1 hg'
    have hc : k.val < 100 ∧ ⊥ < (st 4000).main_v106_5 (ix2 b (R.taken (st 4000).main_v106_5 b ⟨k.val, by omega⟩)) :=
      ⟨k.isLt, hg'⟩
    simp only [if_pos hg', p2, if_pos hc, e4, e6]
    rw [p1, hf.box_eq]
    refine ⟨fun _ => rfl, trivial, ?_⟩
    simp only [slabPos]

end

end Cert.Proof

end
-- ==== Proof.I.Slab.lean ====
/- The slabs hold the boxes and the scores in their order. -/
module

public import proofs.«01_k».proof.Proof.I.Host
public import proofs.«01_k».proof.Proof.Match
public import Idealize.ShloMosaic.Lib.KernelVsHost

@[expose] public section

set_option maxRecDepth 16384

noncomputable section

namespace Cert.Proof.I

open Cert.KernelIdeal
open Idealize.ShloMosaic

/-- A row of a slab, filled up, at an entry: the row's number, and the filler past its end. -/
theorem fill_read (x : Vec Ideal S2x4000 .f32) (v : Vec Ideal S_ .f32) (b : Fin 2) (j : Fin 4096) :
    (shapeCast S2x32x128 (pad S2x4096 ![0, 0] ![0, 96] ![0, 0] x v Gen.pads_S2x4000_S2x4096_000_0960 Gen.h_S_)
        Gen.shapeCasts_S2x4096_S2x32x128 : Vec Ideal S2x32x128 .f32) (place3 b j)
      = if h : j.val < 4000 then x (ix2 b ⟨j.val, h⟩) else v ix0 := by
  unfold place3
  pointwise
  rw [show Shape.Idx.first (s := S_) Gen.h_S_ = ix0 from funext fun a => a.elim0]

theorem slab_read (c : Fin 4) (h : S2x4000x4.Slices ![0, 0, c.val] S2x4000x1) (a0 : Boxes) (b : Fin 2) (i : Fin 4000) :
    slabOf ![0, 0, c.val] h a0 (place3 b (slabPos i)) = box a0 b i c := by
  unfold slabOf
  rw [fill_read, dif_pos (show (slabPos i).val < 4000 from i.isLt)]
  unfold box
  fin_cases c <;>
  · pointwise
    rfl

theorem scoreSlab_read (a1 : Scores) (b : Fin 2) (i : Fin 4000) : scoreSlab a1 (place3 b (slabPos i)) = raw a1 b i := by
  unfold scoreSlab
  rw [fill_read, dif_pos (show (slabPos i).val < 4000 from i.isLt)]
  pointwise [raw]
  rfl

/-- The filler is under the threshold. -/
theorem filler_low : ¬ Ideal.ofBits .f32 0x3DCCCCCD#32 < Ideal.ofBits .f32 0xBF800000#32 := by
  simp [Ideal.ofBits, Ideal.ieee]
  rw [← EReal.coe_mul, ← EReal.coe_mul, ← EReal.coe_neg, EReal.coe_le_coe_iff]
  norm_num

variable (m : (ℓ : Loc nD τ sig) → Buf (Elt Ideal) ℓ)

/-- The region is fed with the arguments. -/
theorem fed (c : Dev nD) :
    Fed (m ((c.tc : Thread nD τ).loc main_arg0)) (m ((c.tc : Thread nD τ).loc main_arg1))
      (Gen.iblk m c 0 (0 : Fin 1)) (Gen.iblk m c 1 (0 : Fin 1)) (Gen.iblk m c 2 (0 : Fin 1)) (Gen.iblk m c 3 (0 : Fin 1))
      (Gen.iblk m c 4 (0 : Fin 1)) := by
  obtain ⟨b0, b1, b2, b3, b4⟩ := blocks m c
  obtain ⟨i0, i1, i2, i3, i4⟩ := inputs m c
  rw [b0, b1, b2, b3, b4, i0, i1, i2, i3, i4]
  generalize (m ((c.tc : Thread nD τ).loc main_arg0) : Boxes) = a0
  generalize (m ((c.tc : Thread nD τ).loc main_arg1) : Scores) = a1
  refine ⟨fun b i => funext fun t => ?_, scoreSlab_read a1, fun b j hj => ?_⟩
  · fin_cases t
    · exact slab_read 0 _ a0 b i
    · exact slab_read 1 _ a0 b i
    · exact slab_read 2 _ a0 b i
    · exact slab_read 3 _ a0 b i
  · unfold scoreSlab
    rw [fill_read, dif_neg (by omega)]
    exact filler_low

end Cert.Proof.I

end
-- ==== Proof.I.Results.lean ====
/- The kernel's run, its results named. -/
module

public import proofs.«01_k».proof.Proof.I.Host

@[expose] public section

set_option maxRecDepth 16384

noncomputable section

namespace Cert.Proof.I

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The first hundred rows of the boxes. -/
def boxRows (x : Vec Ideal S2x101x4 .f32) : Vec Ideal S2x100x4 .f32 :=
  extractStridedSlice S2x100x4 ![0, 0, 0] x slices_S2x101x4_S2x100x4_0_0_0

/-- The first hundred rows of a column. -/
def column {α : Type} (x : S2x101x1.Idx → α) : S2x100.Idx → α :=
  shapeCast S2x100 (extractStridedSlice S2x100x1 ![0, 0, 0] x slices_S2x101x1_S2x100x1_0_0_0) shapeCasts_S2x100x1_S2x100

/-- The lines after the region cut the results out of the region's. -/
theorem tail (c : Dev nD) :
    Pipeline.afterTail₀ cfgs (dats m) 0 (V0 m) [hostOps1] c main_v22 = boxRows (outAt m c (0 : Fin 1)).bo
      ∧ Pipeline.afterTail₀ cfgs (dats m) 0 (V0 m) [hostOps1] c main_v24 = column (outAt m c (0 : Fin 1)).so
      ∧ Pipeline.afterTail₀ cfgs (dats m) 0 (V0 m) [hostOps1] c main_v26 = column (outAt m c (0 : Fin 1)).co := by
  obtain ⟨o5, o6, o7⟩ := outputs m c
  have hinj : Function.Injective (Pipeline.arrRef spec0) := launch0.win.arr_inj
  have w5 := (Pipeline.withArrays_arr spec0 hinj c (V0 m c) (fun w => (dats m 0 c).arrAt w (cfgs 0).N) 5).trans o5
  have w6 := (Pipeline.withArrays_arr spec0 hinj c (V0 m c) (fun w => (dats m 0 c).arrAt w (cfgs 0).N) 6).trans o6
  have w7 := (Pipeline.withArrays_arr spec0 hinj c (V0 m c) (fun w => (dats m 0 c).arrAt w (cfgs 0).N) 7).trans o7
  unfold Pipeline.afterTail₀
  change StableHlo.after [hostOps1].flatten (Pipeline.withArrays spec0 c (V0 m c) (fun w => (dats m 0 c).arrAt w (cfgs 0).N)) (Proc.devRef .tc main_v22) = _
    ∧ StableHlo.after [hostOps1].flatten (Pipeline.withArrays spec0 c (V0 m c) (fun w => (dats m 0 c).arrAt w (cfgs 0).N)) (Proc.devRef .tc main_v24) = _
    ∧ StableHlo.after [hostOps1].flatten (Pipeline.withArrays spec0 c (V0 m c) (fun w => (dats m 0 c).arrAt w (cfgs 0).N)) (Proc.devRef .tc main_v26) = _
  change Pipeline.withArrays spec0 c (V0 m c) (fun w => (dats m 0 c).arrAt w (cfgs 0).N) (Proc.devRef .tc main_v21_0) = _ at w5
  change Pipeline.withArrays spec0 c (V0 m c) (fun w => (dats m 0 c).arrAt w (cfgs 0).N) (Proc.devRef .tc main_v21_1) = _ at w6
  change Pipeline.withArrays spec0 c (V0 m c) (fun w => (dats m 0 c).arrAt w (cfgs 0).N) (Proc.devRef .tc main_v21_2) = _ at w7
  generalize (Pipeline.withArrays spec0 c (V0 m c) (fun w => (dats m 0 c).arrAt w (cfgs 0).N)) = W at w5 w6 w7 ⊢
  refine ⟨?_, ?_, ?_⟩ <;>
  · simp only [hostOps1, List.flatten_cons, List.flatten_nil, List.append_nil]
    after_results
    first | rw [w5] | rw [w6] | rw [w7]
    rfl

/-- The kernel's results and its arguments at the end. -/
theorem run_results (ρ : Dev nD → PrngReg) :
    θ_run defs (onTc (τ := τ) (main (F := Ideal))) ⟨m, fun _ => 0, ρ⟩ (fun r => ∀ c : Dev nD,
      r.2.mem ((c.tc : Thread nD τ).loc main_v22) = boxRows (outAt m c (0 : Fin 1)).bo
      ∧ r.2.mem ((c.tc : Thread nD τ).loc main_v24) = column (outAt m c (0 : Fin 1)).so
      ∧ r.2.mem ((c.tc : Thread nD τ).loc main_v26) = column (outAt m c (0 : Fin 1)).co
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v22 (Pipeline.mem_restRefs_of main_v22 (by decide) (by decide))).trans (tail m c).1,
      ((h.1 c).2 main_v24 (Pipeline.mem_restRefs_of main_v24 (by decide) (by decide))).trans (tail m c).2.1,
      ((h.1 c).2 main_v26 (Pipeline.mem_restRefs_of main_v26 (by decide) (by decide))).trans (tail m c).2.2,
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_main m ρ)

end Cert.Proof.I

end
-- ==== Proof.Equal.lean ====
/- The kernel and the reference end with equal results. -/
module

public import proofs.«01_k».proof.Defs
public import proofs.«01_k».proof.Proof.I.Slab
public import proofs.«01_k».proof.Proof.I.Results
public import proofs.«01_k».proof.Proof.R.Run

@[expose] public section

set_option maxRecDepth 16384

noncomputable section

namespace Cert.Proof

open Idealize.ShloMosaic Idealize.ShloMosaic.TcCoe Idealize.SL.Sem

/-- The side conditions of the precondition's own operations. -/
theorem pre_facts : Cert.Pre_scores_below_infinity.Facts := ⟨by decide, by decide⟩

/-- Under the precondition every masked score is below infinity. -/
theorem scores_lt [Cert.Pre_scores_below_infinity.Facts] (a0 : Boxes) (a1 : Scores)
    (h : Cert.Pre_scores_below_infinity.fn (F := Ideal) a0 a1 = fun _ => 1#1) (b : Fin 2) (i : Fin 4000) :
    score a0 a1 b i < ⊤ := by
  have hr : raw a1 b i < ⊤ := by
    have e : Cert.Pre_scores_below_infinity.fn (F := Ideal) a0 a1 (ix3 b ⟨i.val / 2, by omega⟩ ⟨i.val % 2, by omega⟩)
        = BitVec.ofBool (decide (raw a1 b i < Ideal.ofBits .f32 0x7F800000#32)) := by
      pointwise [Cert.Pre_scores_below_infinity.fn, raw]
    rw [h, ofBits_top] at e
    exact (ofBool_one _).1 e.symm
  unfold score
  split
  · exact hr
  · exact bot_lt_top

section

open Cert.KernelIdeal

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- On one core: the reference's results are the kernel's. -/
theorem results_eq (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (hlt : ∀ b i, score (m ((c.tc : Thread nD τ).loc main_arg0)) (m ((c.tc : Thread nD τ).loc main_arg1)) b i < ⊤) :
    Cert.ReferenceIdeal.Step.R_main_v108 (R.itAt m' c 4000) = I.boxRows (I.outAt m c (0 : Fin 1)).bo
      ∧ Cert.ReferenceIdeal.Step.R_main_v113 (R.itAt m' c 4000) = I.column (I.outAt m c (0 : Fin 1)).so
      ∧ Cert.ReferenceIdeal.Step.R_main_v110 (R.itAt m' c 4000) = I.column (I.outAt m c (0 : Fin 1)).co := by
  have h0 : R.itAt m' c 0 = Cert.ReferenceIdeal.Step.init (m ((c.tc : Thread nD τ).loc main_arg0)) (m ((c.tc : Thread nD τ).loc main_arg1)) := by
    show Cert.ReferenceIdeal.Step.init _ _ = _
    rw [e0, e1]
  have H := rows_match (I.fed m c) hlt (R.itAt m' c) h0 fun _ => rfl
  unfold I.outAt
  generalize I.final (F := Ideal) _ _ _ _ _ = fin at H ⊢
  refine ⟨funext fun j => ?_, funext fun j => ?_, funext fun j => ?_⟩
  · obtain ⟨b, k, t, rfl⟩ : ∃ (b : Fin 2) (k : Fin 100) (t : Fin 4), j = ix3 b k t := ⟨j 0, j 1, j 2, by simp⟩
    rw [← (H b k).1 t]
    pointwise [I.boxRows]
  · obtain ⟨b, k, rfl⟩ : ∃ (b : Fin 2) (k : Fin 100), j = ix2 b k := ⟨j 0, j 1, by simp⟩
    rw [← (H b k).2.1]
    pointwise [I.column]
  · obtain ⟨b, k, rfl⟩ : ∃ (b : Fin 2) (k : Fin 100), j = ix2 b k := ⟨j 0, j 1, by simp⟩
    rw [← (H b k).2.2]
    pointwise [I.column]

end

/-- From equal arguments, no class score infinite, both programs end with the same boxes, scores and classes. -/
theorem equal_results : Cert.algebraic_KernelIdeal_ReferenceIdeal_pre_scores_below_infinity (hKernelIdeal := Cert.KernelIdeal.Gen.facts)
    (hReferenceIdeal := Cert.ReferenceIdeal.Gen.facts) (hPre_scores_below_infinity := pre_facts) := by
  letI := pre_facts
  intro m g m' g' hpre harg
  have E := fun c => results_eq m m' c (harg c).1 (harg c).2 (scores_lt _ _ (hpre c))
  refine ⟨_, _, _, I.run_results m g, (θ_run _ _ _).mono (fun r h c => ?_)
    (Cert.ReferenceIdeal.StepRun.run_iter m' g' (R.itAt m') (fun _ => rfl) fun _ _ => rfl)⟩
  obtain ⟨h0, h1, h2, h3⟩ := h c
  exact ⟨h0.trans (E c).1, h1.trans (E c).2.1, h2.trans (E c).2.2, h3⟩

end Cert.Proof

end
-- ==== Proof.lean ====
module

public import proofs.«01_k».proof.Defs
public import proofs.«01_k».proof.Proof.K.Run
public import proofs.«01_k».proof.Proof.R.Run
public import proofs.«01_k».proof.Proof.Equal

@[expose] public section

noncomputable section

namespace Cert.Proof

open Idealize.ShloMosaic Idealize.SL.Sem

/-- The kernel runs, leaves its arguments alone and every semaphore counter at zero. -/
theorem kernel_frame : Cert.quiescent_Kernel (hKernel := Cert.Kernel.Gen.facts) :=
  fun m g _ => Cert.Proof.K.frame_sem m g

/-- The same of the ideal program. -/
theorem ideal_frame : Cert.quiescent_KernelIdeal (hKernelIdeal := Cert.KernelIdeal.Gen.facts) :=
  fun m g _ => Cert.Proof.I.frame_sem m g

/-- The same of the reference. -/
theorem reference_frame : Cert.quiescent_ReferenceIdeal (hReferenceIdeal := Cert.ReferenceIdeal.Gen.facts) :=
  fun m g _ => Cert.Proof.R.frame_sem m g

/-- Every claim. The two frames under the precondition are the frames of any memory. -/
theorem claim : Cert.Claim :=
  ⟨Cert.Kernel.Gen.facts, Cert.KernelIdeal.Gen.facts, Cert.ReferenceIdeal.Gen.facts, pre_facts,
    kernel_frame, ideal_frame, fun m g _ => Cert.Proof.I.frame_sem m g,
    reference_frame, fun m g _ => Cert.Proof.R.frame_sem m g, trivial, equal_results⟩

end Cert.Proof

end
